-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_hw" .f32 0x39A72F05#32 ((1 / 3136 : ℝ) : EReal)
  ∧ IdealRules.named_const.Statement Cert.KernelIdeal.κ "neg" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x384x56x56 : Shape := ⟨4, ![32, 384, 56, 56]⟩
abbrev S384x768 : Shape := ⟨2, ![384, 768]⟩
abbrev S384 : Shape := ⟨1, ![384]⟩
abbrev S16x384 : Shape := ⟨2, ![16, 384]⟩
abbrev S16 : Shape := ⟨1, ![16]⟩
abbrev S_ : Shape := ⟨0, ![]⟩

class Facts : Prop where
  bcast_S_S32x384x56x56 : S_.BroadcastsInDim S32x384x56x56 (![] : Fin 0 → Fin S32x384x56x56.rank)
  reducesTo_S32x384x56x56_S_d0_1_2_3 : S32x384x56x56.ReducesTo [0, 1, 2, 3] S_
  h_S_ : 0 < S_.numel
  bcast_S_S384x768 : S_.BroadcastsInDim S384x768 (![] : Fin 0 → Fin S384x768.rank)
  reducesTo_S384x768_S_d0_1 : S384x768.ReducesTo [0, 1] S_
  bcast_S_S384 : S_.BroadcastsInDim S384 (![] : Fin 0 → Fin S384.rank)
  reducesTo_S384_S_d0 : S384.ReducesTo [0] S_
  bcast_S_S16x384 : S_.BroadcastsInDim S16x384 (![] : Fin 0 → Fin S16x384.rank)
  reducesTo_S16x384_S_d0_1 : S16x384.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x384 1) : IVec S_ 1 :=
  let main_c_5 : IVec S_ 1 := constantI S_ 1 1#1
  let main_v17 : IVec S_ 1 := (fun x v => Host.reduce IntOp.andi x v reducesTo_S16x384_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S32x384x56x56 .f32) (main_arg1 : FVec F S384x768 .f32) (main_arg2 : FVec F S384 .f32) (main_arg3 : FVec F S16x384 .f32) (main_arg4 : FVec F S16 .f32) : IVec S_ 1 :=
  let main_v0 : FVec F S32x384x56x56 .f32 := Host.absf main_arg0
  let main_cst : FVec F S_ .f32 := constant S_ .f32 0x7F800000#32
  let main_v1 : FVec F S32x384x56x56 .f32 := broadcastInDim S32x384x56x56 ![] bcast_S_S32x384x56x56 main_cst
  let main_v2 : IVec S32x384x56x56 1 := cmpf .olt main_v0 main_v1
  let main_c : IVec S_ 1 := constantI S_ 1 1#1
  let main_v3 : IVec S_ 1 := (fun x v => Host.reduce IntOp.andi x v reducesTo_S32x384x56x56_S_d0_1_2_3 h_S_) main_v2 main_c
  let main_v4 : FVec F S384x768 .f32 := Host.absf main_arg1
  let main_cst_0 : FVec F S_ .f32 := constant S_ .f32 0x7F800000#32
  let main_v5 : FVec F S384x768 .f32 := broadcastInDim S384x768 ![] bcast_S_S384x768 main_cst_0
  let main_v6 : IVec S384x768 1 := cmpf .olt main_v4 main_v5
  let main_c_1 : IVec S_ 1 := constantI S_ 1 1#1
  let main_v7 : IVec S_ 1 := (fun x v => Host.reduce IntOp.andi x v reducesTo_S384x768_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S16x384 .f32 := Host.absf main_arg3
  let main_cst_4 : FVec F S_ .f32 := constant S_ .f32 0x7F800000#32
  let main_v15 : FVec F S16x384 .f32 := broadcastInDim S16x384 ![] bcast_S_S16x384 main_cst_4
  let main_v16 : IVec S16x384 1 := cmpf .olt main_v14 main_v15
  fn_part1 (F := F) main_arg4 main_v13 main_v16
-- ==== Kernel.lean ====
abbrev S32x384x56x56 : Shape := ⟨4, ![32, 384, 56, 56]⟩
abbrev S384x768 : Shape := ⟨2, ![384, 768]⟩
abbrev S384 : Shape := ⟨1, ![384]⟩
abbrev S16x384 : Shape := ⟨2, ![16, 384]⟩
abbrev S16 : Shape := ⟨1, ![16]⟩
abbrev S32x56x56x384 : Shape := ⟨4, ![32, 56, 56, 384]⟩
abbrev S1x16 : Shape := ⟨2, ![1, 16]⟩
abbrev S16x32 : Shape := ⟨2, ![16, 32]⟩
abbrev S2x32 : Shape := ⟨2, ![2, 32]⟩
abbrev S32x16 : Shape := ⟨2, ![32, 16]⟩
abbrev S32x16x1x1 : Shape := ⟨4, ![32, 16, 1, 1]⟩
abbrev S32x2 : Shape := ⟨2, ![32, 2]⟩
abbrev S32x2x1x1 : Shape := ⟨4, ![32, 2, 1, 1]⟩
abbrev S2x56x56x384 : Shape := ⟨4, ![2, 56, 56, 384]⟩
abbrev S32x768 : Shape := ⟨2, ![32, 768]⟩
abbrev S56x56 : Shape := ⟨2, ![56, 56]⟩
abbrev S56x384 : Shape := ⟨2, ![56, 384]⟩
abbrev S1x1x56x384 : Shape := ⟨4, ![1, 1, 56, 384]⟩
abbrev S1x384 : Shape := ⟨2, ![1, 384]⟩
abbrev S32x384 : Shape := ⟨2, ![32, 384]⟩
abbrev S32 : Shape := ⟨1, ![32]⟩
abbrev S32x1 : Shape := ⟨2, ![32, 1]⟩

abbrev nBuf : Space → Nat
  | .hbm => 13
  | .vmem => 11
  | .smem => 0
  | _ => 0

abbrev bufTy : (tb : Table) → Fin (tcTables nBuf tb) → BufTy
  | .hbm, ⟨0, _⟩ => ⟨S32x384x56x56, .f32⟩
  | .hbm, ⟨1, _⟩ => ⟨S384x768, .f32⟩
  | .hbm, ⟨2, _⟩ => ⟨S384, .f32⟩
  | .hbm, ⟨3, _⟩ => ⟨S16x384, .f32⟩
  | .hbm, ⟨4, _⟩ => ⟨S16, .f32⟩
  | .hbm, ⟨5, _⟩ => ⟨S32x56x56x384, .f32⟩
  | .hbm, ⟨6, _⟩ => ⟨S1x16, .f32⟩
  | .hbm, ⟨7, _⟩ => ⟨S16x32, .f32⟩
  | .hbm, ⟨8, _⟩ => ⟨S2x32, .i32⟩
  | .hbm, ⟨9, _⟩ => ⟨S32x16, .f32⟩
  | .hbm, ⟨10, _⟩ => ⟨S32x16x1x1, .f32⟩
  | .hbm, ⟨11, _⟩ => ⟨S32x2, .i32⟩
  | .hbm, ⟨12, _⟩ => ⟨S32x2x1x1, .i32⟩
  | .local _ .vmem, ⟨0, _⟩ => ⟨S2x56x56x384, .f32⟩
  | .local _ .vmem, ⟨1, _⟩ => ⟨S2x56x56x384, .f32⟩
  | .local _ .vmem, ⟨2, _⟩ => ⟨S2x56x56x384, .f32⟩
  | .local _ .vmem, ⟨3, _⟩ => ⟨S2x56x56x384, .f32⟩
  | .local _ .vmem, ⟨4, _⟩ => ⟨S384x768, .f32⟩
  | .local _ .vmem, ⟨5, _⟩ => ⟨S384, .f32⟩
  | .local _ .vmem, ⟨6, _⟩ => ⟨S16x384, .f32⟩
  | .local _ .vmem, ⟨7, _⟩ => ⟨S1x16, .f32⟩
  | .local _ .vmem, ⟨8, _⟩ => ⟨S16x32, .f32⟩
  | .local _ .vmem, ⟨9, _⟩ => ⟨S2x32, .i32⟩
  | .local _ .vmem, ⟨10, _⟩ => ⟨S32x768, .f32⟩
  | _, _ => ⟨S32x384x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2_0 : Ref sig .tc := ⟨.hbm, 7, rfl⟩
abbrev main_call0_v2_1 : Ref sig .tc := ⟨.hbm, 8, rfl⟩
abbrev main_call0_v3 : Ref sig .tc := ⟨.hbm, 9, rfl⟩
abbrev main_v0_0 : Ref sig .tc := ⟨.hbm, 10, rfl⟩
abbrev main_call0_v5 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![8], ![false]⟩

def k0_off1 (i : grid0.Coords) (c0_i32_670 : BitVec 32) : Fin 2 → Nat :=
  let arg0 : BitVec 32 := BitVec.ofNat 32 (i 0).val
  let c4_i32 : BitVec 32 := 4#32
  let v690 : BitVec 32 := Scalar.muli arg0 c4_i32
  let v691 : BitVec 32 := Scalar.addi v690 c0_i32_670
  let v692 : Index := Scalar.indexCast v691
  let c0_671 : Index := 0#32
  ![v692.toNat, 0]
def k0_off2 (i : grid0.Coords) (c0_i32_673 : BitVec 32) : Fin 2 → Nat :=
  let arg0 : BitVec 32 := BitVec.ofNat 32 (i 0).val
  let c4_i32_672 : BitVec 32 := 4#32
  let v697 : BitVec 32 := Scalar.muli arg0 c4_i32_672
  let v698 : BitVec 32 := Scalar.addi v697 c0_i32_673
  let v699 : Index := Scalar.indexCast v698
  let c384 : Index := 384#32
  ![v699.toNat, 384]
def k0_cond1 (i : grid0.Coords) : BitVec 1 :=
  let arg0 : BitVec 32 := BitVec.ofNat 32 (i 0).val
  let c7_i32 : BitVec 32 := 7#32
  let v2767 : BitVec 1 := Scalar.cmpi .eq arg0 c7_i32
  let v2768 : BitVec 32 := Scalar.extui v2767
  let c0_i32_2868 : BitVec 32 := 0#32
  let v2769 : BitVec 1 := Scalar.cmpi .ne v2768 c0_i32_2868
  v2769

def cc0_transform_0 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x56x56x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x56x56x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x32 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv_hw" => some ((1 / 3136 : ℝ) : EReal)
  | "neg" => some ⊥
  | _ => none
-- ==== ReferenceIdeal.lean ====
abbrev S32x384x56x56 : Shape := ⟨4, ![32, 384, 56, 56]⟩
abbrev S384x768 : Shape := ⟨2, ![384, 768]⟩
abbrev S384 : Shape := ⟨1, ![384]⟩
abbrev S16x384 : Shape := ⟨2, ![16, 384]⟩
abbrev S16 : Shape := ⟨1, ![16]⟩
abbrev S_ : Shape := ⟨0, ![]⟩
abbrev S32x384x58x58 : Shape := ⟨4, ![32, 384, 58, 58]⟩
abbrev S32x384 : Shape := ⟨2, ![32, 384]⟩
abbrev S32x768 : Shape := ⟨2, ![32, 768]⟩
abbrev S768x384 : Shape := ⟨2, ![768, 384]⟩
abbrev S1x384 : Shape := ⟨2, ![1, 384]⟩
abbrev S384x16 : Shape := ⟨2, ![384, 16]⟩
abbrev S32x16 : Shape := ⟨2, ![32, 16]⟩
abbrev S1x16 : Shape := ⟨2, ![1, 16]⟩
abbrev S32x2 : Shape := ⟨2, ![32, 2]⟩
abbrev S32x2x1 : Shape := ⟨3, ![32, 2, 1]⟩
abbrev S1 : Shape := ⟨1, ![1]⟩
abbrev S1x1x1 : Shape := ⟨3, ![1, 1, 1]⟩
abbrev S32 : Shape := ⟨1, ![32]⟩
abbrev S32x1 : Shape := ⟨2, ![32, 1]⟩
abbrev S32x2x2 : Shape := ⟨3, ![32, 2, 2]⟩
abbrev S32x16x1x1 : Shape := ⟨4, ![32, 16, 1, 1]⟩
abbrev S32x2x1x1 : Shape := ⟨4, ![32, 2, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S32x384x56x56, .f32⟩
  | .hbm, ⟨1, _⟩ => ⟨S384x768, .f32⟩
  | .hbm, ⟨2, _⟩ => ⟨S384, .f32⟩
  | .hbm, ⟨3, _⟩ => ⟨S16x384, .f32⟩
  | .hbm, ⟨4, _⟩ => ⟨S16, .f32⟩
  | .hbm, ⟨5, _⟩ => ⟨S_, .i32⟩
  | .hbm, ⟨6, _⟩ => ⟨S_, .f32⟩
  | .hbm, ⟨7, _⟩ => ⟨S32x384x58x58, .f32⟩
  | .hbm, ⟨8, _⟩ => ⟨S_, .f32⟩
  | .hbm, ⟨9, _⟩ => ⟨S32x384x56x56, .f32⟩
  | .hbm, ⟨10, _⟩ => ⟨S32x384x56x56, .f32⟩
  | .hbm, ⟨11, _⟩ => ⟨S32x384x56x56, .f32⟩
  | .hbm, ⟨12, _⟩ => ⟨S32x384x56x56, .f32⟩
  | .hbm, ⟨13, _⟩ => ⟨S32x384x56x56, .f32⟩
  | .hbm, ⟨14, _⟩ => ⟨S32x384x56x56, .f32⟩
  | .hbm, ⟨15, _⟩ => ⟨S32x384x56x56, .f32⟩
  | .hbm, ⟨16, _⟩ => ⟨S32x384x56x56, .f32⟩
  | .hbm, ⟨17, _⟩ => ⟨S32x384x56x56, .f32⟩
  | .hbm, ⟨18, _⟩ => ⟨S32x384x56x56, .f32⟩
  | .hbm, ⟨19, _⟩ => ⟨S_, .f32⟩
  | .hbm, ⟨20, _⟩ => ⟨S32x384, .f32⟩
  | .hbm, ⟨21, _⟩ => ⟨S_, .f32⟩
  | .hbm, ⟨22, _⟩ => ⟨S32x384, .f32⟩
  | .hbm, ⟨23, _⟩ => ⟨S32x384, .f32⟩
  | .hbm, ⟨24, _⟩ => ⟨S32x384x56x56, .f32⟩
  | .hbm, ⟨25, _⟩ => ⟨S_, .f32⟩
  | .hbm, ⟨26, _⟩ => ⟨S32x384, .f32⟩
  | .hbm, ⟨27, _⟩ => ⟨S_, .f32⟩
  | .hbm, ⟨28, _⟩ => ⟨S32x384, .f32⟩
  | .hbm, ⟨29, _⟩ => ⟨S32x384, .f32⟩
  | .hbm, ⟨30, _⟩ => ⟨S32x768, .f32⟩
  | .hbm, ⟨31, _⟩ => ⟨S768x384, .f32⟩
  | .hbm, ⟨32, _⟩ => ⟨S32x384, .f32⟩
  | .hbm, ⟨33, _⟩ => ⟨S1x384, .f32⟩
  | .hbm, ⟨34, _⟩ => ⟨S32x384, .f32⟩
  | .hbm, ⟨35, _⟩ => ⟨S32x384, .f32⟩
  | .hbm, ⟨36, _⟩ => ⟨S_, .f32⟩
  | .hbm, ⟨37, _⟩ => ⟨S32x384, .f32⟩
  | .hbm, ⟨38, _⟩ => ⟨S32x384, .f32⟩
  | .hbm, ⟨39, _⟩ => ⟨S384x16, .f32⟩
  | .hbm, ⟨40, _⟩ => ⟨S32x16, .f32⟩
  | .hbm, ⟨41, _⟩ => ⟨S1x16, .f32⟩
  | .hbm, ⟨42, _⟩ => ⟨S32x16, .f32⟩
  | .hbm, ⟨43, _⟩ => ⟨S32x16, .f32⟩
  | .hbm, ⟨44, _⟩ => ⟨S32x2, .f32⟩
  | .hbm, ⟨45, _⟩ => ⟨S32x2, .i32⟩
  | .hbm, ⟨46, _⟩ => ⟨S_, .i32⟩
  | .hbm, ⟨47, _⟩ => ⟨S32x2, .i32⟩
  | .hbm, ⟨48, _⟩ => ⟨S32x2, .i1⟩
  | .hbm, ⟨49, _⟩ => ⟨S_, .i32⟩
  | .hbm, ⟨50, _⟩ => ⟨S32x2, .i32⟩
  | .hbm, ⟨51, _⟩ => ⟨S32x2, .i32⟩
  | .hbm, ⟨52, _⟩ => ⟨S32x2, .i32⟩
  | .hbm, ⟨53, _⟩ => ⟨S32x2x1, .i32⟩
  | .hbm, ⟨54, _⟩ => ⟨S1, .i32⟩
  | .hbm, ⟨55, _⟩ => ⟨S_, .i32⟩
  | .hbm, ⟨56, _⟩ => ⟨S32x2x1, .i32⟩
  | .hbm, ⟨57, _⟩ => ⟨S32x2x1, .i1⟩
  | .hbm, ⟨58, _⟩ => ⟨S1x1x1, .i32⟩
  | .hbm, ⟨59, _⟩ => ⟨S32x2x1, .i32⟩
  | .hbm, ⟨60, _⟩ => ⟨S32x2x1, .i1⟩
  | .hbm, ⟨61, _⟩ => ⟨S32x2x1, .i1⟩
  | .hbm, ⟨62, _⟩ => ⟨S_, .i1⟩
  | .hbm, ⟨63, _⟩ => ⟨S32x2, .i1⟩
  | .hbm, ⟨64, _⟩ => ⟨S32x2, .f32⟩
  | .hbm, ⟨65, _⟩ => ⟨S_, .f32⟩
  | .hbm, ⟨66, _⟩ => ⟨S32x2, .f32⟩
  | .hbm, ⟨67, _⟩ => ⟨S32x2, .f32⟩
  | .hbm, ⟨68, _⟩ => ⟨S_, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S32x1, .f32⟩
  | .hbm, ⟨74, _⟩ => ⟨S32x2, .f32⟩
  | .hbm, ⟨75, _⟩ => ⟨S32x2, .f32⟩
  | .hbm, ⟨76, _⟩ => ⟨S32x2, .f32⟩
  | .hbm, ⟨77, _⟩ => ⟨S_, .f32⟩
  | .hbm, ⟨78, _⟩ => ⟨S32, .f32⟩
  | .hbm, ⟨79, _⟩ => ⟨S32x1, .f32⟩
  | .hbm, ⟨80, _⟩ => ⟨S32x2, .f32⟩
  | .hbm, ⟨81, _⟩ => ⟨S32x2, .f32⟩
  | .hbm, ⟨82, _⟩ => ⟨S_, .f32⟩
  | .hbm, ⟨83, _⟩ => ⟨S32x16, .f32⟩
  | .hbm, ⟨84, _⟩ => ⟨S32, .i32⟩
  | .hbm, ⟨85, _⟩ => ⟨S32x1, .i32⟩
  | .hbm, ⟨86, _⟩ => ⟨S_, .i32⟩
  | .hbm, ⟨87, _⟩ => ⟨S32x1, .i32⟩
  | .hbm, ⟨88, _⟩ => ⟨S32x1, .i1⟩
  | .hbm, ⟨89, _⟩ => ⟨S_, .i32⟩
  | .hbm, ⟨90, _⟩ => ⟨S32x1, .i32⟩
  | .hbm, ⟨91, _⟩ => ⟨S32x1, .i32⟩
  | .hbm, ⟨92, _⟩ => ⟨S32x1, .i32⟩
  | .hbm, ⟨93, _⟩ => ⟨S_, .i32⟩
  | .hbm, ⟨94, _⟩ => ⟨S32x2, .i32⟩
  | .hbm, ⟨95, _⟩ => ⟨S32x2, .i1⟩
  | .hbm, ⟨96, _⟩ => ⟨S_, .i32⟩
  | .hbm, ⟨97, _⟩ => ⟨S32x2, .i32⟩
  | .hbm, ⟨98, _⟩ => ⟨S32x2, .i32⟩
  | .hbm, ⟨99, _⟩ => ⟨S32x2, .i32⟩
  | .hbm, ⟨100, _⟩ => ⟨S32x2, .i32⟩
  | .hbm, ⟨101, _⟩ => ⟨S32x2x1, .i32⟩
  | .hbm, ⟨102, _⟩ => ⟨S32x2x1, .i32⟩
  | .hbm, ⟨103, _⟩ => ⟨S32x2x2, .i32⟩
  | .hbm, ⟨104, _⟩ => ⟨S32x16, .f32⟩
  | .hbm, ⟨105, _⟩ => ⟨S32x16x1x1, .f32⟩
  | .hbm, ⟨106, _⟩ => ⟨S32x2x1x1, .i32⟩
  | _, _ => ⟨S32x384x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_cst : Ref sig .tc := ⟨.hbm, 36, rfl⟩
abbrev main_call1_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_values : Ref sig .tc := ⟨.hbm, 44, rfl⟩
abbrev main_indices : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_cst : Ref sig .tc := ⟨.hbm, 65, rfl⟩
abbrev main_call2_v14 : Ref sig .tc := ⟨.hbm, 66, rfl⟩
abbrev main_v30 : Ref sig .tc := ⟨.hbm, 67, rfl⟩
abbrev main_cst_4 : Ref sig .tc := ⟨.hbm, 68, rfl⟩
abbrev main_v31 : Ref sig .tc := ⟨.hbm, 69, rfl⟩
abbrev main_cst_5 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_6 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_7 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_8 : Ref sig .tc := ⟨.hbm, 86, rfl⟩
abbrev main_v45 : Ref sig .tc := ⟨.hbm, 87, rfl⟩
abbrev main_v46 : Ref sig .tc := ⟨.hbm, 88, rfl⟩
abbrev main_c_9 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_10 : Ref sig .tc := ⟨.hbm, 93, rfl⟩
abbrev main_v50 : Ref sig .tc := ⟨.hbm, 94, rfl⟩
abbrev main_v51 : Ref sig .tc := ⟨.hbm, 95, rfl⟩
abbrev main_c_11 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩

abbrev nD : Nat := 1
abbrev τ : Topo := Topo.v7x

variable {F : FTy → Type} [FloatOps F]
-- ==== Proof.Router.Stats.lean ====
module

public import proofs.«01_k».proof.Proof.Gen.KernelIdeal.Frame
public import proofs.«01_k».proof.Proof.Gen.KernelIdeal.Skeleton
public import Idealize.ShloMosaic.Lib.Pointwise
public import Idealize.ShloMosaic.Lib.WritesUnit
public import Idealize.ShloMosaic.Lib.VecWindow

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The statistics of one image, from its 56 rows -/

/-- A loaded row of an image, its two unit axes dropped. -/
def rowOf (v : Vec F S1x1x56x384 .f32) : FVec F S56x384 .f32 :=
  shapeCast S56x384 v shapeCasts_S1x1x56x384_S56x384

/-- The accumulators' first contents. -/
def zeroAcc : FVec F S56x384 .f32 := broadcast S56x384 (Scalar.ofBits .f32 0x00000000#32)

/-- The sum of the first `n` rows, taken in order. -/
def rowSum (l : Fin 56 → Vec F S1x1x56x384 .f32) : ℕ → FVec F S56x384 .f32
  | 0 => zeroAcc
  | n + 1 => addf (rowSum l n) (rowOf (l (Fin.ofNat 56 n)))

/-- A row's own part of the five-point difference: four times the entry less its two neighbours along the row,
    as a product with the fixed tri-diagonal matrix. -/
def alongRow (l : Fin 56 → Vec F S1x1x56x384 .f32) (n : ℕ) : FVec F S56x384 .f32 :=
  matmul dot_S56x56_S56x384_S56x384_1_0_0_1_n_n none (k0_pay12 (F := F)) (rowOf (l (Fin.ofNat 56 n)))
    (constant S56x384 .f32 0x00000000#32)

/-- The five-point difference of a row that has a row below it: the first row has none above. -/
def lapRow (l : Fin 56 → Vec F S1x1x56x384 .f32) : ℕ → FVec F S56x384 .f32
  | 0 => subf (alongRow l 0) (rowOf (l (Fin.ofNat 56 1)))
  | n + 1 => subf (subf (alongRow l (n + 1)) (rowOf (l (Fin.ofNat 56 n)))) (rowOf (l (Fin.ofNat 56 (n + 2))))

/-- The sum of the absolute differences of the first `n` rows, each with a row below it. -/
def lapSum (l : Fin 56 → Vec F S1x1x56x384 .f32) : ℕ → FVec F S56x384 .f32
  | 0 => zeroAcc
  | n + 1 => addf (lapSum l n) (absf (lapRow l n))

/-- The sum of all 56 rows' absolute differences: the last row has none below. -/
def lapTotal (l : Fin 56 → Vec F S1x1x56x384 .f32) : FVec F S56x384 .f32 :=
  addf (lapSum l 55) (absf (subf (alongRow l 55) (rowOf (l (Fin.ofNat 56 54)))))

/-- A `[56, 384]` accumulator summed down its first axis, times the reciprocal of the number of pixels. -/
def meanOf (acc : FVec F S56x384 .f32) : FVec F S1x384 .f32 :=
  shapeCast S1x384 (shapeCast S1x384
    (mulf (multiReduction .add [0] S384 acc 0x00000000#32 reduces_S56x384_S384 (.inl rfl) rfl)
      (broadcast S384 (Named.named κ "inv_hw" 0x39A72F05#32))) shapeCasts_S384_S1x384) shapeCasts_S1x384_S1x384

/-- The mean of an image's entries, by channel. -/
def meanStat (l : Fin 56 → Vec F S1x1x56x384 .f32) : FVec F S1x384 .f32 := meanOf (rowSum l 56)

/-- The mean of an image's absolute differences, by channel. -/
def freqStat (l : Fin 56 → Vec F S1x1x56x384 .f32) : FVec F S1x384 .f32 := meanOf (lapTotal l)

theorem inb_rowA (h : Fin 56) (a : Fin 4) : (![0, (h : ℕ), 0, 0] : Fin 4 → ℕ) a + S1x1x56x384.size a ≤ S2x56x56x384.size a := by
  have := h.isLt
  fin_cases a <;> simp [Shape.size] <;> omega

theorem inb_rowB (h : Fin 56) (a : Fin 4) : (![1, (h : ℕ), 0, 0] : Fin 4 → ℕ) a + S1x1x56x384.size a ≤ S2x56x56x384.size a := by
  have := h.isLt
  fin_cases a <;> simp [Shape.size] <;> omega

/-- Row `h` of the first image of a block of two. -/
def ldA (x : Vec F S2x56x56x384 .f32) (h : Fin 56) : Vec F S1x1x56x384 .f32 :=
  View.ld x (Rect.unit (s := S2x56x56x384) ![0, (h : ℕ), 0, 0] S1x1x56x384.size (inb_rowA h))

/-- Row `h` of the second image of a block of two. -/
def ldB (x : Vec F S2x56x56x384 .f32) (h : Fin 56) : Vec F S1x1x56x384 .f32 :=
  View.ld x (Rect.unit (s := S2x56x56x384) ![1, (h : ℕ), 0, 0] S1x1x56x384.size (inb_rowB h))

/-- The four images of a grid point, two from each of its blocks. -/
def imgs (x y : Vec F S2x56x56x384 .f32) : Fin 4 → Fin 56 → Vec F S1x1x56x384 .f32 :=
  ![ldA x, ldB x, ldA y, ldB y]

/-- The eight stores of one grid point into the table of statistics, the last first: a mean and a mean absolute
    difference for each of four images. -/
def pieces (i : grid0.Coords) (l0 l1 l2 l3 : Fin 56 → Vec F S1x1x56x384 .f32) : List (View.Piece (Elt F) S32x768 .f32) :=
  [⟨Rect.unit (s := S32x768) (k0_off2 i 3#32) S1x384.size (k0_off2_inb i 3), freqStat l3⟩,
   ⟨Rect.unit (s := S32x768) (k0_off1 i 3#32) S1x384.size (k0_off1_inb i 3), meanStat l3⟩,
   ⟨Rect.unit (s := S32x768) (k0_off2 i 2#32) S1x384.size (k0_off2_inb i 2), freqStat l2⟩,
   ⟨Rect.unit (s := S32x768) (k0_off1 i 2#32) S1x384.size (k0_off1_inb i 2), meanStat l2⟩,
   ⟨Rect.unit (s := S32x768) (k0_off2 i 1#32) S1x384.size (k0_off2_inb i 1), freqStat l1⟩,
   ⟨Rect.unit (s := S32x768) (k0_off1 i 1#32) S1x384.size (k0_off1_inb i 1), meanStat l1⟩,
   ⟨Rect.unit (s := S32x768) (k0_off2 i 0#32) S1x384.size (k0_off2_inb i 0), freqStat l0⟩,
   ⟨Rect.unit (s := S32x768) (k0_off1 i 0#32) S1x384.size (k0_off1_inb i 0), meanStat l0⟩]

/-! ## The table after one grid point's stores -/

theorem off1_eq : ∀ i : grid0.Coords, ∀ r : Fin 4, k0_off1 i (BitVec.ofNat 32 r.val) = ![4 * (i 0).val + r.val, 0] := by
  decide +kernel

theorem off2_eq : ∀ i : grid0.Coords, ∀ r : Fin 4, k0_off2 i (BitVec.ofNat 32 r.val) = ![4 * (i 0).val + r.val, 384] := by
  decide +kernel

/-- An image's entry of the table at column `k`: the means, then the mean absolute differences. -/
def statAt (l : Fin 56 → Vec F S1x1x56x384 .f32) (k : Fin 768) : F .f32 :=
  if h : k.val < 384 then meanStat l (ix2 (0 : Fin 1) ⟨k.val, h⟩) else freqStat l (ix2 (0 : Fin 1) ⟨k.val - 384, by omega⟩)

/-- The entry of `putRows` at row `a`, column `b`. -/
def putAt (n : ℕ) (l : Fin 4 → Fin 56 → Vec F S1x1x56x384 .f32) (s : Vec F S32x768 .f32) (a : Fin 32) (b : Fin 768) : F .f32 :=
  if a.val / 4 = n then statAt (l ⟨a.val % 4, Nat.mod_lt _ (by decide)⟩) b else s (ix2 a b)

/-- The table `s` with rows `4 n` to `4 n + 3` set to the statistics of four images. -/
def putRows (n : ℕ) (l : Fin 4 → Fin 56 → Vec F S1x1x56x384 .f32) (s : Vec F S32x768 .f32) : Vec F S32x768 .f32 := fun y =>
  putAt n l s (y 0) (y 1)

theorem putRows_mean {n : ℕ} (l : Fin 4 → Fin 56 → Vec F S1x1x56x384 .f32) (s : Vec F S32x768 .f32) (y0 : Fin 32) (y1 : Fin 768)
    (r : Fin 4) (h0 : y0.val = 4 * n + r.val) (h1 : y1.val < 384) :
    putRows n l s (ix2 y0 y1) = meanStat (l r) (ix2 (0 : Fin 1) ⟨y1.val, h1⟩) := by
  have e : (⟨y0.val % 4, Nat.mod_lt _ (by decide)⟩ : Fin 4) = r := Fin.ext (by simp only; omega)
  show putAt n l s y0 y1 = _
  unfold putAt statAt
  rw [if_pos (by omega), dif_pos h1, e]

theorem putRows_freq {n : ℕ} (l : Fin 4 → Fin 56 → Vec F S1x1x56x384 .f32) (s : Vec F S32x768 .f32) (y0 : Fin 32) (y1 : Fin 768)
    (r : Fin 4) (h0 : y0.val = 4 * n + r.val) (h1 : 384 ≤ y1.val) :
    putRows n l s (ix2 y0 y1) = freqStat (l r) (ix2 (0 : Fin 1) ⟨y1.val - 384, by omega⟩) := by
  have e : (⟨y0.val % 4, Nat.mod_lt _ (by decide)⟩ : Fin 4) = r := Fin.ext (by simp only; omega)
  show putAt n l s y0 y1 = _
  unfold putAt statAt
  rw [if_pos (by omega), dif_neg (by omega), e]

/-- One store of half a row, read at an entry. -/
theorem read_half {κ' : Kind} {sp : Space} (v : View sig κ' sp S32x768 .f32) (f : v.ty.Contents (Elt F)) {off : Fin 2 → ℕ} {p q : ℕ}
    (inb : ∀ a, off a + S1x384.size a ≤ S32x768.size a) (w : Vec F S1x384 .f32) (L : List (View.Piece (Elt F) S32x768 .f32))
    (y0 : Fin 32) (y1 : Fin 768) (heq : off = ![p, q]) :
    v.read (Elt F) (v.writes (Elt F) f ((⟨Rect.unit (s := S32x768) off S1x384.size inb, w⟩ : View.Piece (Elt F) S32x768 .f32) :: L)) (ix2 y0 y1)
      = if h : y0.val = p ∧ q ≤ y1.val ∧ y1.val < q + 384 then w (ix2 (0 : Fin 1) ⟨y1.val - q, by omega⟩)
        else v.read (Elt F) (v.writes (Elt F) f L) (ix2 y0 y1) := by
  by_cases h : y0.val = p ∧ q ≤ y1.val ∧ y1.val < q + 384
  · rw [dif_pos h]
    refine View.read_writes_cons_unit_of_mem v f inb w L (ix2 y0 y1) (ix2 (0 : Fin 1) ⟨y1.val - q, by omega⟩) heq ?_
    refine Fin.forall_fin_two.mpr ⟨?_, ?_⟩
    · show y0.val = p + 0
      omega
    · show y1.val = q + (y1.val - q)
      omega
  · rw [dif_neg h]
    by_cases h0 : y0.val = p
    · refine View.read_writes_cons_unit_of_not_mem v f inb w L (ix2 y0 y1) heq (1 : Fin 2) ?_
      show y1.val < q ∨ q + 384 ≤ y1.val
      omega
    · refine View.read_writes_cons_unit_of_not_mem v f inb w L (ix2 y0 y1) heq (0 : Fin 2) ?_
      show y0.val < p ∨ p + 1 ≤ y0.val
      omega

/-- The eight stores leave the table with the four images' rows set. -/
theorem read_pieces {κ' : Kind} {sp : Space} (v : View sig κ' sp S32x768 .f32) (f : v.ty.Contents (Elt F)) (i : grid0.Coords)
    (l : Fin 4 → Fin 56 → Vec F S1x1x56x384 .f32) :
    v.read (Elt F) (v.writes (Elt F) f (pieces i (l 0) (l 1) (l 2) (l 3))) = putRows (i 0).val l (v.read (Elt F) f) := by
  funext y
  obtain ⟨y0, y1, rfl⟩ : ∃ (a : Fin 32) (b : Fin 768), y = ix2 a b := ⟨y 0, y 1, eq_ix2 y⟩
  unfold pieces
  rw [read_half v f _ _ _ _ _ (show k0_off2 i 3#32 = ![4 * (i 0).val + 3, 384] from off2_eq i 3),
    read_half v f _ _ _ _ _ (show k0_off1 i 3#32 = ![4 * (i 0).val + 3, 0] from off1_eq i 3),
    read_half v f _ _ _ _ _ (show k0_off2 i 2#32 = ![4 * (i 0).val + 2, 384] from off2_eq i 2),
    read_half v f _ _ _ _ _ (show k0_off1 i 2#32 = ![4 * (i 0).val + 2, 0] from off1_eq i 2),
    read_half v f _ _ _ _ _ (show k0_off2 i 1#32 = ![4 * (i 0).val + 1, 384] from off2_eq i 1),
    read_half v f _ _ _ _ _ (show k0_off1 i 1#32 = ![4 * (i 0).val + 1, 0] from off1_eq i 1),
    read_half v f _ _ _ _ _ (show k0_off2 i 0#32 = ![4 * (i 0).val + 0, 384] from off2_eq i 0),
    read_half v f _ _ _ _ _ (show k0_off1 i 0#32 = ![4 * (i 0).val + 0, 0] from off1_eq i 0)]
  split_ifs with h7 h6 h5 h4 h3 h2 h1 h0
  · exact (putRows_freq l _ y0 y1 3 h7.1 h7.2.1).symm
  · exact (putRows_mean l _ y0 y1 3 h6.1 (by have := h6.2.2; omega)).symm
  · exact (putRows_freq l _ y0 y1 2 h5.1 h5.2.1).symm
  · exact (putRows_mean l _ y0 y1 2 h4.1 (by have := h4.2.2; omega)).symm
  · exact (putRows_freq l _ y0 y1 1 h3.1 h3.2.1).symm
  · exact (putRows_mean l _ y0 y1 1 h2.1 (by have := h2.2.2; omega)).symm
  · exact (putRows_freq l _ y0 y1 0 h1.1 h1.2.1).symm
  · exact (putRows_mean l _ y0 y1 0 h0.1 (by have := h0.2.2; omega)).symm
  · have hn : ¬ y0.val / 4 = (i 0).val := by
      intro e
      have := y1.isLt
      simp only [Fin.isValue, Fin.val_zero, Fin.val_one, Fin.val_two, show ((3 : Fin 4) : ℕ) = 3 from rfl] at *
      omega
    show _ = putAt (i 0).val l (v.read (Elt F) f) y0 y1
    unfold putAt
    rw [if_neg hn]
    rfl

/-! ## The router's two results -/

/-- The two weights, spread over the experts, of a table of statistics and the router's parameters. -/
def outP (t : Vec F S32x768 .f32) (w1 : Vec F S384x768 .f32) (b1 : Vec F S384 .f32) (w2 : Vec F S16x384 .f32) (b2 : Vec F S1x16 .f32) :
    FVec F S16x32 .f32 :=
  k0_pay2 (iota .tc S32x16 32 [1] iota_S32x16_d1_w32) (k0_pay6 t w1 b1 w2 b2) (k0_pay9 t w1 b1 w2 b2) (k0_pay10 t w1 b1 w2 b2)
    (k0_pay11 t w1 b1 w2 b2)

/-- The two chosen experts of a table of statistics and the router's parameters. -/
def outI (t : Vec F S32x768 .f32) (w1 : Vec F S384x768 .f32) (b1 : Vec F S384 .f32) (w2 : Vec F S16x384 .f32) (b2 : Vec F S1x16 .f32) :
    IVec S2x32 32 :=
  k0_pay3 (k0_pay6 t w1 b1 w2 b2) (k0_pay9 t w1 b1 w2 b2)

end Cert.KernelIdeal.Router

end
-- ==== Proof.Router.Body.lean ====
module

public import proofs.«01_k».proof.Proof.Gen.KernelIdeal.Frame
public import proofs.«01_k».proof.Proof.Gen.KernelIdeal.Skeleton
public import proofs.«01_k».proof.Proof.Router.Stats

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One grid point of the launch: what it leaves in the table and, at the last point, in the two results -/

/-- The last grid point: the router runs. -/
abbrev cond0_0 (i : grid0.Coords) : Prop := k0_cond1 i = 1#1

/-- The loads of the first image's rows, as the body makes them. -/
def rawA (arg : Memref sig .tc .vmem S2x56x56x384 .f32) (harg : arg.IsWhole) (x : Vec F S2x56x56x384 .f32) (h : Fin 56) : Vec F S1x1x56x384 .f32 :=
  View.readAt (Elt F) arg.view (Rect.unit (s := S2x56x56x384) ![0, (h : ℕ), 0, 0] S1x1x56x384.size (inb_rowA h)).toLoadRect (harg.unread x)

/-- The loads of the second image's rows, as the body makes them. -/
def rawB (arg : Memref sig .tc .vmem S2x56x56x384 .f32) (harg : arg.IsWhole) (x : Vec F S2x56x56x384 .f32) (h : Fin 56) : Vec F S1x1x56x384 .f32 :=
  View.readAt (Elt F) arg.view (Rect.unit (s := S2x56x56x384) ![1, (h : ℕ), 0, 0] S1x1x56x384.size (inb_rowB h)).toLoadRect (harg.unread x)

theorem rawA_eq (arg : Memref sig .tc .vmem S2x56x56x384 .f32) (harg : arg.IsWhole) (x : Vec F S2x56x56x384 .f32) : rawA arg harg x = ldA x := by
  funext h
  unfold rawA ldA
  rw [View.readAt_eq_ld, harg.read_unread]

theorem rawB_eq (arg : Memref sig .tc .vmem S2x56x56x384 .f32) (harg : arg.IsWhole) (x : Vec F S2x56x56x384 .f32) : rawB arg harg x = ldB x := by
  funext h
  unfold rawB ldB
  rw [View.readAt_eq_ld, harg.read_unread]

theorem read_table (arg9 : Memref sig .tc .vmem S32x768 .f32) (harg9 : arg9.IsWhole) (i : grid0.Coords) (x0 x1 : Vec F S2x56x56x384 .f32)
    (s : Vec F S32x768 .f32) :
    arg9.view.read (Elt F) (arg9.view.writes (Elt F) (harg9.unread s) (pieces i (ldA x0) (ldB x0) (ldA x1) (ldB x1)))
      = putRows (i 0).val (imgs x0 x1) s :=
  (read_pieces arg9.view (harg9.unread s) i (imgs x0 x1)).trans (by rw [harg9.read_unread])

set_option maxHeartbeats 3696000 in
/-- A grid point that is not the last sets its four rows of the table and leaves the results alone. -/
theorem run_A (c : Dev nD) (i : grid0.Coords)
    (arg1 : Memref sig .tc .vmem S2x56x56x384 .f32) (harg1 : arg1.IsWhole) (arg2 : Memref sig .tc .vmem S2x56x56x384 .f32) (harg2 : arg2.IsWhole)
    (arg3 : Memref sig .tc .vmem S384x768 .f32) (harg3 : arg3.IsWhole) (arg4 : Memref sig .tc .vmem S384 .f32) (harg4 : arg4.IsWhole) (arg5 : Memref
    sig .tc .vmem S16x384 .f32) (harg5 : arg5.IsWhole) (arg6 : Memref sig .tc .vmem S1x16 .f32) (harg6 : arg6.IsWhole) (arg7 : Memref sig .tc .vmem
    S16x32 .f32) (harg7 : arg7.IsWhole) (arg8 : Memref sig .tc .vmem S2x32 .i32) (harg8 : arg8.IsWhole) (arg9 : Memref sig .tc .vmem S32x768 .f32)
    (harg9 : arg9.IsWhole)
    (hc0 : ¬ cond0_0 i)
    (x0 x1 : Vec F S2x56x56x384 .f32) (x2 : Vec F S384x768 .f32) (x3 : Vec F S384 .f32) (x4 : Vec F S16x384 .f32)
    (x5 : Vec F S1x16 .f32) (s : Vec F S32x768 .f32)
    (d6 : Vec F S16x32 .f32) (d7 : Vec F S2x32 .i32) :
      ∀ (E : Set ℕ) (K : PUnit → sProp 𝕄),
        iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare d6 ∗ owns (c : Thread nD τ) arg8 fullShare d7 ∗ owns (c : Thread nD τ) arg9 fullShare s
            ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare d6 ∗ owns (c : Thread nD τ) arg8 fullShare d7 ∗ owns (c : Thread nD τ) arg9 fullShare (putRows (i 0).val (imgs x0 x1) s))
                -∗ K PUnit.unit))
          ⊢ wp frame (wpE (defs₀ (F := F)) Variants.none c none) E
              (cc0__fused_kernel i arg1 harg1 arg2 harg2 arg3 harg3 arg4 harg4 arg5 harg5 arg6 harg6 arg7 harg7 arg8 harg8 arg9 harg9) K := by
    intro E K
    simp only [cc0__fused_kernel_eq_skeleton]; unfold cc0__fused_kernel_skel
    simp only [k0_part97_eq_skeleton, k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton, k0_part16_eq_skeleton, k0_part17_eq_skeleton,
      k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton,
      k0_part30_eq_skeleton, k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton, k0_part41_eq_skeleton,
      k0_part42_eq_skeleton, k0_part43_eq_skeleton, k0_part44_eq_skeleton, k0_part45_eq_skeleton, k0_part46_eq_skeleton, k0_part47_eq_skeleton,
      k0_part48_eq_skeleton, k0_part49_eq_skeleton, k0_part50_eq_skeleton, k0_part51_eq_skeleton, k0_part52_eq_skeleton, k0_part53_eq_skeleton,
      k0_part54_eq_skeleton, k0_part55_eq_skeleton, k0_part56_eq_skeleton, k0_part57_eq_skeleton, k0_part58_eq_skeleton, k0_part59_eq_skeleton,
      k0_part60_eq_skeleton, k0_part61_eq_skeleton, k0_part62_eq_skeleton, k0_part63_eq_skeleton, k0_part64_eq_skeleton, k0_part65_eq_skeleton,
      k0_part66_eq_skeleton, k0_part67_eq_skeleton, k0_part68_eq_skeleton, k0_part69_eq_skeleton, k0_part70_eq_skeleton, k0_part71_eq_skeleton,
      k0_part72_eq_skeleton, k0_part73_eq_skeleton, k0_part74_eq_skeleton, k0_part75_eq_skeleton, k0_part76_eq_skeleton, k0_part77_eq_skeleton,
      k0_part78_eq_skeleton, k0_part79_eq_skeleton, k0_part80_eq_skeleton, k0_part81_eq_skeleton, k0_part82_eq_skeleton, k0_part83_eq_skeleton,
      k0_part84_eq_skeleton, k0_part85_eq_skeleton, k0_part86_eq_skeleton, k0_part87_eq_skeleton, k0_part88_eq_skeleton, k0_part89_eq_skeleton,
      k0_part90_eq_skeleton, k0_part91_eq_skeleton, k0_part92_eq_skeleton, k0_part93_eq_skeleton, k0_part94_eq_skeleton, k0_part95_eq_skeleton,
      k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%f7, %hf7, H7⟩, ⟨%fs0, %hfs, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro; exact hf6
    isplitl [H7]
    · iexists _; isplitr; swap; · iexact H7
      ipureintro; exact hf7
    iexists _
    isplitr; swap; · iexact HS0
    ipureintro
    refine (congrArg (fun L => arg9.view.read (Elt F) (arg9.view.writes (Elt F) (harg9.unread s) L))
      (show _ = pieces i (rawA arg1 harg1 x0) (rawB arg1 harg1 x0) (rawA arg2 harg2 x1) (rawB arg2 harg2 x1) from rfl)).trans ?_
    rw [rawA_eq, rawB_eq, rawA_eq, rawB_eq]
    exact read_table arg9 harg9 i x0 x1 s

set_option maxHeartbeats 3696000 in
/-- The last grid point sets its four rows of the table and stores the router's results of the table. -/
theorem run_B (c : Dev nD) (i : grid0.Coords)
    (arg1 : Memref sig .tc .vmem S2x56x56x384 .f32) (harg1 : arg1.IsWhole) (arg2 : Memref sig .tc .vmem S2x56x56x384 .f32) (harg2 : arg2.IsWhole)
    (arg3 : Memref sig .tc .vmem S384x768 .f32) (harg3 : arg3.IsWhole) (arg4 : Memref sig .tc .vmem S384 .f32) (harg4 : arg4.IsWhole) (arg5 : Memref
    sig .tc .vmem S16x384 .f32) (harg5 : arg5.IsWhole) (arg6 : Memref sig .tc .vmem S1x16 .f32) (harg6 : arg6.IsWhole) (arg7 : Memref sig .tc .vmem
    S16x32 .f32) (harg7 : arg7.IsWhole) (arg8 : Memref sig .tc .vmem S2x32 .i32) (harg8 : arg8.IsWhole) (arg9 : Memref sig .tc .vmem S32x768 .f32)
    (harg9 : arg9.IsWhole)
    (hc0 : cond0_0 i)
    (x0 x1 : Vec F S2x56x56x384 .f32) (x2 : Vec F S384x768 .f32) (x3 : Vec F S384 .f32) (x4 : Vec F S16x384 .f32)
    (x5 : Vec F S1x16 .f32) (s : Vec F S32x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ (∃ d, owns (c : Thread nD τ) arg7 fullShare d) ∗ (∃ d, owns (c : Thread nD τ) arg8 fullShare d) ∗ owns (c : Thread nD τ) arg9 fullShare s
            ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare (outP (putRows (i 0).val (imgs x0 x1) s) x2 x3 x4 x5) ∗ owns (c : Thread nD τ) arg8 fullShare (outI (putRows (i 0).val (imgs x0 x1) s) x2 x3 x4 x5) ∗ owns (c : Thread nD τ) arg9 fullShare (putRows (i 0).val (imgs x0 x1) s))
                -∗ K PUnit.unit))
          ⊢ wp frame (wpE (defs₀ (F := F)) Variants.none c none) E
              (cc0__fused_kernel i arg1 harg1 arg2 harg2 arg3 harg3 arg4 harg4 arg5 harg5 arg6 harg6 arg7 harg7 arg8 harg8 arg9 harg9) K := by
    intro E K
    simp only [cc0__fused_kernel_eq_skeleton]; unfold cc0__fused_kernel_skel
    simp only [k0_part97_eq_skeleton, k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton, k0_part16_eq_skeleton, k0_part17_eq_skeleton,
      k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton,
      k0_part30_eq_skeleton, k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton, k0_part41_eq_skeleton,
      k0_part42_eq_skeleton, k0_part43_eq_skeleton, k0_part44_eq_skeleton, k0_part45_eq_skeleton, k0_part46_eq_skeleton, k0_part47_eq_skeleton,
      k0_part48_eq_skeleton, k0_part49_eq_skeleton, k0_part50_eq_skeleton, k0_part51_eq_skeleton, k0_part52_eq_skeleton, k0_part53_eq_skeleton,
      k0_part54_eq_skeleton, k0_part55_eq_skeleton, k0_part56_eq_skeleton, k0_part57_eq_skeleton, k0_part58_eq_skeleton, k0_part59_eq_skeleton,
      k0_part60_eq_skeleton, k0_part61_eq_skeleton, k0_part62_eq_skeleton, k0_part63_eq_skeleton, k0_part64_eq_skeleton, k0_part65_eq_skeleton,
      k0_part66_eq_skeleton, k0_part67_eq_skeleton, k0_part68_eq_skeleton, k0_part69_eq_skeleton, k0_part70_eq_skeleton, k0_part71_eq_skeleton,
      k0_part72_eq_skeleton, k0_part73_eq_skeleton, k0_part74_eq_skeleton, k0_part75_eq_skeleton, k0_part76_eq_skeleton, k0_part77_eq_skeleton,
      k0_part78_eq_skeleton, k0_part79_eq_skeleton, k0_part80_eq_skeleton, k0_part81_eq_skeleton, k0_part82_eq_skeleton, k0_part83_eq_skeleton,
      k0_part84_eq_skeleton, k0_part85_eq_skeleton, k0_part86_eq_skeleton, k0_part87_eq_skeleton, k0_part88_eq_skeleton, k0_part89_eq_skeleton,
      k0_part90_eq_skeleton, k0_part91_eq_skeleton, k0_part92_eq_skeleton, k0_part93_eq_skeleton, k0_part94_eq_skeleton, k0_part95_eq_skeleton,
      k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩,
      ⟨%d7, %f7, %hf7, H7⟩, ⟨%fs0, %hfs, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg9.eq_unread hfs
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (View.read_writes_full _ _ _ _ _).trans ?_
      refine Eq.trans (b := outP (View.readAt (Elt F) arg9.view (Rect.unit (s := S32x768) ![0, 0] S32x768.size inb_S32x768_S32x768_0_0).toLoadRect
          (arg9.view.writes (Elt F) (harg9.unread s) (pieces i (rawA arg1 harg1 x0) (rawB arg1 harg1 x0) (rawA arg2 harg2 x1) (rawB arg2 harg2 x1))))
        (View.readAt (Elt F) arg3.view (Rect.unit (s := S384x768) ![0, 0] S384x768.size inb_S384x768_S384x768_0_0).toLoadRect (harg3.unread x2))
        (View.readAt (Elt F) arg4.view (Rect.unit (s := S384) ![0] S384.size inb_S384_S384_0).toLoadRect (harg4.unread x3))
        (View.readAt (Elt F) arg5.view (Rect.unit (s := S16x384) ![0, 0] S16x384.size inb_S16x384_S16x384_0_0).toLoadRect (harg5.unread x4))
        (View.readAt (Elt F) arg6.view (Rect.unit (s := S1x16) ![0, 0] S1x16.size inb_S1x16_S1x16_0_0).toLoadRect (harg6.unread x5))) rfl ?_
      rw [View.readAt_full, View.readAt_full, View.readAt_full, View.readAt_full, View.readAt_full, harg3.read_unread, harg4.read_unread,
        harg5.read_unread, harg6.read_unread, rawA_eq, rawB_eq, rawA_eq, rawB_eq, read_table arg9 harg9 i x0 x1 s]
    isplitl [H7]
    · iexists _; isplitr; swap; · iexact H7
      ipureintro
      refine (View.read_writes_full _ _ _ _ _).trans ?_
      refine Eq.trans (b := outI (View.readAt (Elt F) arg9.view (Rect.unit (s := S32x768) ![0, 0] S32x768.size inb_S32x768_S32x768_0_0).toLoadRect
          (arg9.view.writes (Elt F) (harg9.unread s) (pieces i (rawA arg1 harg1 x0) (rawB arg1 harg1 x0) (rawA arg2 harg2 x1) (rawB arg2 harg2 x1))))
        (View.readAt (Elt F) arg3.view (Rect.unit (s := S384x768) ![0, 0] S384x768.size inb_S384x768_S384x768_0_0).toLoadRect (harg3.unread x2))
        (View.readAt (Elt F) arg4.view (Rect.unit (s := S384) ![0] S384.size inb_S384_S384_0).toLoadRect (harg4.unread x3))
        (View.readAt (Elt F) arg5.view (Rect.unit (s := S16x384) ![0, 0] S16x384.size inb_S16x384_S16x384_0_0).toLoadRect (harg5.unread x4))
        (View.readAt (Elt F) arg6.view (Rect.unit (s := S1x16) ![0, 0] S1x16.size inb_S1x16_S1x16_0_0).toLoadRect (harg6.unread x5))) rfl ?_
      rw [View.readAt_full, View.readAt_full, View.readAt_full, View.readAt_full, View.readAt_full, harg3.read_unread, harg4.read_unread,
        harg5.read_unread, harg6.read_unread, rawA_eq, rawB_eq, rawA_eq, rawB_eq, read_table arg9 harg9 i x0 x1 s]
    iexists _
    isplitr; swap; · iexact HS0
    ipureintro
    refine (congrArg (fun L => arg9.view.read (Elt F) (arg9.view.writes (Elt F) (harg9.unread s) L))
      (show _ = pieces i (rawA arg1 harg1 x0) (rawB arg1 harg1 x0) (rawA arg2 harg2 x1) (rawB arg2 harg2 x1) from rfl)).trans ?_
    rw [rawA_eq, rawB_eq, rawA_eq, rawB_eq]
    exact read_table arg9 harg9 i x0 x1 s

end Cert.KernelIdeal.Router

end
-- ==== Proof.Router.Launch.lean ====
module

public import proofs.«01_k».proof.Proof.Gen.KernelIdeal.Frame
public import proofs.«01_k».proof.Proof.Router.Body
public import Idealize.ShloMosaic.Lib.Claim

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The table the whole launch leaves, and the launch's data -/

/-- The entry at row `a`, column `b` of the table of all 32 images' statistics: row `a` is image `a % 4` of grid point
    `a / 4`. -/
def tableAt (c : Dev nD) (a : Fin 32) (b : Fin 768) : F .f32 :=
  statAt (imgs (iblk m c 0 ⟨a.val / 4, by have := a.isLt; show _ < grid0.N; rw [N_0]; omega⟩)
    (iblk m c 1 ⟨a.val / 4, by have := a.isLt; show _ < grid0.N; rw [N_0]; omega⟩) ⟨a.val % 4, Nat.mod_lt _ (by decide)⟩) b

/-- The table of all 32 images' statistics. -/
def table (c : Dev nD) : Vec F S32x768 .f32 := fun y => tableAt m c (y 0) (y 1)

/-- The table's first `n` rows are in place in `s`. -/
def Filled (c : Dev nD) (n : ℕ) (s : Vec F S32x768 .f32) : Prop :=
  ∀ (a : Fin 32) (b : Fin 768), a.val < n → s (ix2 a b) = tableAt m c a b

theorem filled_zero (c : Dev nD) (s : Vec F S32x768 .f32) : Filled m c (4 * 0) s := fun _ _ h => absurd h (by omega)

theorem filled_succ (c : Dev nD) (t : Fin cfg0.N) (s : Vec F S32x768 .f32) (h : Filled m c (4 * t.val) s) :
    Filled m c (4 * (t.val + 1)) (putRows t.val (imgs (iblk m c 0 t) (iblk m c 1 t)) s) := by
  intro a b ha
  show putAt t.val _ s a b = _
  unfold putAt
  by_cases e : a.val / 4 = t.val
  · rw [if_pos e]
    have et : (⟨a.val / 4, by have := a.isLt; show _ < grid0.N; rw [N_0]; omega⟩ : Fin cfg0.N) = t := Fin.ext e
    unfold tableAt
    rw [et]
  · rw [if_neg e]
    exact h a b (by omega)

theorem filled_all (c : Dev nD) (s : Vec F S32x768 .f32) (h : Filled m c 32 s) : s = table m c := by
  funext y
  obtain ⟨a, b, rfl⟩ : ∃ (a : Fin 32) (b : Fin 768), y = ix2 a b := ⟨y 0, y 1, eq_ix2 y⟩
  exact h a b a.isLt

/-- The table of statistics, held in the kernel's own buffer. -/
abbrev tab : Memref sig .tc .vmem S32x768 .f32 := Memref.whole cc0_scratch0

/-- Before grid point `t` the first `4 t` rows of the table are in place. -/
def Inv (c : Dev nD) (n : ℕ) : sProp 𝕄 :=
  iprop((∃ s, ⌜Filled m c (4 * n) s⌝ ∗ owns (c : Thread nD τ) tab fullShare s) ∗ (∃ r, prngReg c r))

/-- What the region hands over and takes back beside the windows: the table at some contents and the generator register. -/
theorem rest_eq (c : Dev nD) :
    (Pipeline.ΦA spec0 c : sProp 𝕄) = iprop(iprop((∃ d, owns (c : Thread nD τ) tab fullShare d)) ∗ (∃ r, prngReg c r)) := by
  unfold Pipeline.ΦA; rw [scopedRest0_eq]; simp only [tab, owns_whole]; try rfl

/-- The launch's data on core `c`: each input's buffer stays at its block, the two results' buffers end at the router's results of the
    whole table, and the table fills four rows a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outP (table m c) (iblk m c 2 t) (iblk m c 3 t) (iblk m c 4 t) (iblk m c 5 t)
    | ⟨7, _⟩ => outI (table m c) (iblk m c 2 t) (iblk m c 3 t) (iblk m c 4 t) (iblk m c 5 t)
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outP (table m c) (iblk m c 2 t) (iblk m c 3 t) (iblk m c 4 t) (iblk m c 5 t) := by dsimp only [dats]
theorem after0_7 (c : Dev nD) (t : Fin cfg0.N) : (dats m 0 c).after 7 t
    = outI (table m c) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a grid point -/

theorem coord_eq (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- The router runs at the last point only. -/
theorem last_iff (t : Fin cfg0.N) : cond0_0 (grid0.coords t) ↔ t.val % 8 = 7 := by
  have ht : t.val < 8 := Nat.lt_of_lt_of_eq t.isLt N_0
  have e0 : (grid0.coords t 0).val = t.val / 1 % 8 := Pipeline.Grid.coords_val t 0 (by decide) rfl
  simp only [cond0_0, k0_cond1, e0]
  word_cmp

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: four more rows of the table, and at the last point the two results. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Inv m c t.val from rfl, show (dats m 0 c).Φ t.succ = Inv m c (t.val + 1) from rfl]
  unfold Inv
  have hN : t.val < 8 := lt_of_lt_of_eq t.isLt (show cfg0.N = 8 from N_0)
  rw [show (dats m 0 c).leavesExact 0 t = owns (c : Thread nD τ) (st0_0 t) fullShare ((dats m 0 c).after 0 t) from by
    unfold Dat.leavesExact; rfl, after0_0]
  rw [show (dats m 0 c).leavesExact 1 t = owns (c : Thread nD τ) (st0_1 t) fullShare ((dats m 0 c).after 1 t) from by
    unfold Dat.leavesExact; rfl, after0_1]
  rw [show (dats m 0 c).leavesExact 2 t = owns (c : Thread nD τ) (st0_2 t) fullShare ((dats m 0 c).after 2 t) from by
    unfold Dat.leavesExact; rfl, after0_2]
  rw [show (dats m 0 c).leavesExact 3 t = owns (c : Thread nD τ) (st0_3 t) fullShare ((dats m 0 c).after 3 t) from by
    unfold Dat.leavesExact; rfl, after0_3]
  rw [show (dats m 0 c).leavesExact 4 t = owns (c : Thread nD τ) (st0_4 t) fullShare ((dats m 0 c).after 4 t) from by
    unfold Dat.leavesExact; rfl, after0_4]
  rw [show (dats m 0 c).leavesExact 5 t = owns (c : Thread nD τ) (st0_5 t) fullShare ((dats m 0 c).after 5 t) from by
    unfold Dat.leavesExact; rfl, after0_5]
  by_cases h0 : t.val % 8 = 7
  · have hi : (k0_cond1 (grid0.coords t) == 1#1) = true := by
      rw [show k0_cond1 (grid0.coords t) = 1#1 from (last_iff t).mpr h0]; rfl
    rw [show (dats m 0 c).leavesExact 6 t = owns (c : Thread nD τ) (st0_6 t) fullShare ((dats m 0 c).after 6 t) from by
      unfold Dat.leavesExact; rw [show cfg0.idle 6 (grid0.coords t) = false from by simp [idle0, hi]], after0_6]
    rw [show (dats m 0 c).leavesExact 7 t = owns (c : Thread nD τ) (st0_7 t) fullShare ((dats m 0 c).after 7 t) from by
      unfold Dat.leavesExact; rw [show cfg0.idle 7 (grid0.coords t) = false from by simp [idle0, hi]], after0_7]
    iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hs' := filled_succ m c t s hs
    have hall : putRows t.val (imgs (iblk m c 0 t) (iblk m c 1 t)) s = table m c :=
      filled_all m c _ (by have e : 4 * (t.val + 1) = 32 := by omega
                           rw [e] at hs'; exact hs')
    iapply ((run_B c (grid0.coords t) _ _ _ _ _ _ _ _ _ _ _ _ _ _ _ _ _ _ ((last_iff t).mpr h0) (iblk m c 0 t) (iblk m c 1 t) (iblk m c 2 t)
      (iblk m c 3 t) (iblk m c 4 t) (iblk m c 5 t) s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    rw [coord_eq t]
    iintro ⟨H0, H1, H2, H3, H4, H5, H6, H7, HS0⟩
    isplitl [HS0 Hg]
    · isplitl [HS0]
      · iexists _; isplitr; swap; · iexact HS0
        ipureintro; exact hs'
      iexact Hg
    rw [hall]
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hi : (k0_cond1 (grid0.coords t) == 1#1) = false := by
      rw [beq_eq_false_iff_ne]; exact fun h => h0 ((last_iff t).mp h)
    have hf6 : (cfg0.win 6).flush t = false := by
      rw [← Bool.not_eq_true]; exact fun h => h0 ((flush0_6 t).mp h)
    have hf7 : (cfg0.win 7).flush t = false := by
      rw [← Bool.not_eq_true]; exact fun h => h0 ((flush0_7 t).mp h)
    rw [show (dats m 0 c).leavesExact 6 t = iprop(∃ d, owns (c : Thread nD τ) (st0_6 t) fullShare ((dats m 0 c).before 6 t d)) from by
      unfold Dat.leavesExact; rw [show cfg0.idle 6 (grid0.coords t) = true from by simp [idle0, hi], hf6]]
    rw [show (dats m 0 c).leavesExact 7 t = iprop(∃ d, owns (c : Thread nD τ) (st0_7 t) fullShare ((dats m 0 c).before 7 t d)) from by
      unfold Dat.leavesExact; rw [show cfg0.idle 7 (grid0.coords t) = true from by simp [idle0, hi], hf7]]
    iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hs' := filled_succ m c t s hs
    iapply ((run_A c (grid0.coords t) _ _ _ _ _ _ _ _ _ _ _ _ _ _ _ _ _ _ (fun h => h0 ((last_iff t).mp h)) (iblk m c 0 t) (iblk m c 1 t) (iblk m c 2 t)
      (iblk m c 3 t) (iblk m c 4 t) (iblk m c 5 t) s ((dats m 0 c).before 6 t d6) ((dats m 0 c).before 7 t d7)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    rw [coord_eq t]
    iintro ⟨H0, H1, H2, H3, H4, H5, H6, H7, HS0⟩
    isplitl [HS0 Hg]
    · isplitl [HS0]
      · iexists _; isplitr; swap; · iexact HS0
        ipureintro; exact hs'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

theorem inv_in (c : Dev nD) : (Pipeline.ΦA spec0 c : sProp 𝕄) ⊢ (dats m 0 c).Φ 0 := by
  rw [rest_eq, show (dats m 0 c).Φ 0 = Inv m c 0 from rfl]
  unfold Inv
  iintro ⟨⟨%d, Hd⟩, Hg⟩
  isplitl [Hd]
  · iexists d; isplitr; swap; · iexact Hd
    ipureintro; exact filled_zero m c d
  iexact Hg

theorem inv_out (c : Dev nD) : (dats m 0 c).Φ (Fin.last cfg0.N) ⊢ (Pipeline.ΦA spec0 c : sProp 𝕄) := by
  rw [rest_eq, show (dats m 0 c).Φ (Fin.last cfg0.N) = Inv m c cfg0.N from rfl]
  unfold Inv
  iintro ⟨⟨%d, %hd, Hd⟩, Hg⟩
  isplitl [Hd]
  · iexists d; iexact Hd
  iexact Hg

set_option backward.isDefEq.respectTransparency.types false in
set_option maxHeartbeats 800000 in
/-- The launch: every window's array ends as the data say, every other buffer at what the host lines after leave, every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m)
    (hin := inv_in m) (hout := inv_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_main_quiescent m ρ))

end Cert.KernelIdeal.Router

end
-- ==== Proof.Router.Frames.lean ====
module

public import proofs.«01_k».proof.Defs
public import proofs.«01_k».proof.Proof.Gen.Kernel.Frame
public import proofs.«01_k».proof.Proof.Gen.ReferenceIdeal.Run
public import proofs.«01_k».proof.Proof.Router.Launch

@[expose] public section

set_option maxRecDepth 65536

/-! # The three frames and the named constants -/

noncomputable section

namespace Cert.Proof

open Idealize.ShloMosaic Idealize.SL.Sem

/-- On the hardware's floats a named constant is the constant it names. -/
@[reducible] def namedBits : Named Bits := ⟨fun _ _ φ b => FloatOps.ofBits φ b⟩

/-- The printed kernel and the kernel with its named constants are one program on the hardware's floats. -/
theorem defs₀_eq : @Cert.Kernel.defs₀ Bits _ _ = @Cert.KernelIdeal.defs₀ Bits _ namedBits _ := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l p
  match l, p with
  | 0, (t, s) => rfl

theorem pcfgs_eq : @Cert.Kernel.pcfgs Bits _ = @Cert.KernelIdeal.pcfgs Bits _ := rfl

theorem defs_eq : @Cert.Kernel.defs Bits _ _ = @Cert.KernelIdeal.defs Bits _ namedBits _ :=
  congrArg (Pipeline.defs (Cert.Kernel.pcfgs (F := Bits))) defs₀_eq

theorem frame_p : Cert.quiescent_Kernel := fun m ρ _ => by
  rw [defs_eq]
  exact @Cert.KernelIdeal.Router.frame Bits _ namedBits m ρ

theorem frame_pi : Cert.quiescent_KernelIdeal := fun m ρ _ => Cert.KernelIdeal.Router.frame m ρ

/-- The reference's run keeps its arguments; it has no semaphore, so no counter to leave at another value. -/
theorem run_ri (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)
        ∧ r.2.mem ((c.tc : Thread _ _).loc Cert.ReferenceIdeal.main_arg4) = m ((c.tc : Thread _ _).loc Cert.ReferenceIdeal.main_arg4))
        ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

theorem frame_ri : Cert.quiescent_ReferenceIdeal := fun m ρ _ => run_ri m ρ

/-- The kernel's two replaced constants: the rounded reciprocal of the number of pixels, and the large negative number that
    stands for minus infinity. -/
theorem preserves : Cert.preserves_Kernel_KernelIdeal :=
  ⟨IdealRules.named_const.statement Cert.KernelIdeal.κ "inv_hw" .f32 0x39A72F05#32 _ rfl,
    IdealRules.named_const.statement Cert.KernelIdeal.κ "neg" .f32 0xFF61B1E6#32 _ rfl⟩

end Cert.Proof

end
-- ==== Proof.Router.Consts.lean ====
module

public import Idealize.ShloMosaic.PureOps.Ideal

@[expose] public section

noncomputable section

/-! The float constants of the two programs, as the extended reals their patterns denote, and finite sums of reals. -/

namespace Cert.Consts

open Idealize.ShloMosaic

theorem ofBits_zero : Ideal.ofBits .f32 0x00000000#32 = ((0 : ℝ) : EReal) := by
  simp [Ideal.ofBits, Ideal.ieee]

theorem ofBits_four : Ideal.ofBits .f32 0x40800000#32 = ((4 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_pixels : Ideal.ofBits .f32 0x45440000#32 = ((3136 : ℝ) : EReal) := by
  simp [Ideal.ofBits, Ideal.ieee, -EReal.coe_mul]; norm_num

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real. -/
def IsReal (x : EReal) : Prop := ∃ r : ℝ, x = (r : EReal)

theorem IsReal.coe (r : ℝ) : IsReal (r : EReal) := ⟨r, rfl⟩

theorem IsReal.add {x y : EReal} : IsReal x → IsReal y → IsReal (x + y) := by
  rintro ⟨r, rfl⟩ ⟨s, rfl⟩
  exact ⟨r + s, (EReal.coe_add r s).symm⟩

theorem IsReal.mul {x y : EReal} : IsReal x → IsReal y → IsReal (x * y) := by
  rintro ⟨r, rfl⟩ ⟨s, rfl⟩
  exact ⟨r * s, (EReal.coe_mul r s).symm⟩

theorem IsReal.max {x y : EReal} (hx : IsReal x) (hy : IsReal y) : IsReal (max x y) := by
  rcases max_choice x y with h | h <;> rw [h] <;> assumption

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The absolute value of a real. -/
theorem max_neg_coe (r : ℝ) : max (r : EReal) (-(r : EReal)) = ((|r| : ℝ) : EReal) := by
  rw [← EReal.coe_neg, abs_eq_max_neg]
  exact (EReal.coe_strictMono.monotone.map_max).symm

end Cert.Consts

end
-- ==== Proof.Router.Finite.lean ====
module

public import proofs.«01_k».proof.Proof.Gen.Pre_finite
public import proofs.«01_k».proof.Proof.Router.Consts
public import Idealize.ShloMosaic.Lib.ReduceAll

@[expose] public section

noncomputable section

/-! The precondition read back: every entry of every argument is a real number. -/

namespace Cert.Pre_finite.Router

open Cert.Pre_finite Cert.Pre_finite.Facts Cert.Consts
open Idealize.ShloMosaic

instance : Subsingleton S_.Idx := ⟨fun i j => funext fun a => a.elim0⟩

/-- An extended real of finite size is a real. -/
theorem real_of_size {x : EReal} (h : max x (-x) < ⊤) : IsReal x := by
  induction x with
  | bot => simp at h
  | top => simp at h
  | coe r => exact .coe r

/-- An array all of whose entries pass the test holds reals. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : IsReal (x i) := by
  have e := Host.reduce_andi_all _ _ hr hu j h i
  have e' : BitVec.ofBool (decide (max (x i) (-(x i)) < Ideal.ofBits .f32 0x7F800000#32)) = 1#1 := e
  rw [ofBits_top] at e'
  refine real_of_size (Classical.not_not.1 fun n => ?_)
  rw [decide_eq_false n] at e'
  exact absurd e' (by decide)

/-- Both halves of a conjunction that holds. -/
theorem and_split {x y : IVec S_ 1} (h : andi x y = fun _ => 1#1) : (x = fun _ => 1#1) ∧ y = fun _ => 1#1 := by
  have b : ∀ u v : BitVec 1, IntOp.andi u v = 1#1 → u = 1#1 ∧ v = 1#1 := by decide
  exact ⟨funext fun j => (b _ _ (congrFun h j)).1, funext fun j => (b _ _ (congrFun h j)).2⟩

/-- What the precondition says. -/
theorem reals [Facts] (x : FVec Ideal S32x384x56x56 .f32) (w1 : FVec Ideal S384x768 .f32) (b1 : FVec Ideal S384 .f32) (w2 : FVec Ideal S16x384 .f32)
    (b2 : FVec Ideal S16 .f32) (h : fn (F := Ideal) x w1 b1 w2 b2 = fun _ => 1#1) :
    (∀ i, IsReal (x i)) ∧ (∀ i, IsReal (w1 i)) ∧ (∀ i, IsReal (b1 i)) ∧ (∀ i, IsReal (w2 i)) ∧ ∀ i, IsReal (b2 i) := by
  unfold fn fn_part1 at h
  obtain ⟨h, h4⟩ := and_split h
  obtain ⟨h, h3⟩ := and_split h
  obtain ⟨h, h2⟩ := and_split h
  obtain ⟨h0, h1⟩ := and_split h
  let j : S_.Idx := fun a => a.elim0
  exact ⟨all_real x _ _ _ j (congrFun h0 j), all_real w1 _ _ _ j (congrFun h1 j), all_real b1 _ _ _ j (congrFun h2 j),
    all_real w2 _ _ _ j (congrFun h3 j), all_real b2 _ _ _ j (congrFun h4 j)⟩

end Cert.Pre_finite.Router

end
-- ==== Proof.Router.Result.lean ====
module

public import proofs.«01_k».proof.Proof.Router.Launch
public import Idealize.ShloMosaic.Lib.Pipeline.ValueKit

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.Sem

variable {F : FTy → Type} [FloatOps F] [Named F]

variable (m : (ℓ : Loc nD τ sig) → Buf (Elt F) ℓ) (ρ : Dev nD → PrngReg)

/-! ## What the whole run leaves in the two results -/

/-- The last grid point. -/
def lastPt : Fin cfg0.N := ⟨7, by decide⟩

/-- The reshaped last bias. -/
abbrev bias2 (c : Dev nD) : Vec F S1x16 .f32 := shapeCast S1x16 (m ((c : Thread nD τ).loc main_arg4)) shapeCasts_S16_S1x16

theorem idx0 : ∀ t : Fin grid0.N, win0_0.index t = ![2 * t.val, 0, 0, 0] := by decide +kernel
theorem idx1 : ∀ t : Fin grid0.N, win0_1.index t = ![2 * t.val + 1, 0, 0, 0] := by decide +kernel
theorem idx2 : ∀ t : Fin grid0.N, win0_2.index t = ![0, 0] := by decide +kernel
theorem idx3 : ∀ t : Fin grid0.N, win0_3.index t = ![0] := by decide +kernel
theorem idx4 : ∀ t : Fin grid0.N, win0_4.index t = ![0, 0] := by decide +kernel
theorem idx5 : ∀ t : Fin grid0.N, win0_5.index t = ![0, 0] := by decide +kernel

theorem blk2 (c : Dev nD) (t : Fin cfg0.N) : iblk m c 2 t = m ((c : Thread nD τ).loc main_arg1) := by
  funext j
  blk_simp [iblk]
  rw [V_main_arg1]
  refine congrArg _ (funext fun a => Fin.ext ?_)
  fin_cases a <;> blk_simp [idx2 t] <;> simp

theorem blk3 (c : Dev nD) (t : Fin cfg0.N) : iblk m c 3 t = m ((c : Thread nD τ).loc main_arg2) := by
  funext j
  blk_simp [iblk]
  rw [V_main_arg2]
  refine congrArg _ (funext fun a => Fin.ext ?_)
  fin_cases a <;> blk_simp [idx3 t] <;> simp

theorem blk4 (c : Dev nD) (t : Fin cfg0.N) : iblk m c 4 t = m ((c : Thread nD τ).loc main_arg3) := by
  funext j
  blk_simp [iblk]
  rw [V_main_arg3]
  refine congrArg _ (funext fun a => Fin.ext ?_)
  fin_cases a <;> blk_simp [idx4 t] <;> simp

theorem V_xt (c : Dev nD) : V m c main_call0_v0 = transpose S32x56x56x384 [0, 2, 3, 1] (m ((c : Thread nD τ).loc main_arg0)) transposes_S32x384x56x56_S32x56x56x384_0_2_3_1 := by
  simp only [V, V0, hostOps0, List.flatten_cons, List.flatten_nil, List.append_nil, StableHlo.after_cons, StableHlo.after_nil]
  after_results_simp
  rfl

theorem V_b2 (c : Dev nD) : V m c main_call0_v1 = bias2 m c := by
  simp only [V, V0, hostOps0, List.flatten_cons, List.flatten_nil, List.append_nil, StableHlo.after_cons, StableHlo.after_nil]
  after_results_simp
  rfl

theorem blk5 (c : Dev nD) (t : Fin cfg0.N) : iblk m c 5 t = bias2 m c := by
  funext j
  blk_simp [iblk]
  rw [V_b2]
  refine congrArg (bias2 m c) (funext fun a => Fin.ext ?_)
  fin_cases a <;> blk_simp [idx5 t] <;> simp

/-- Window 0's block at a point: the first two of the point's four images, channels last. -/
theorem blk0 (c : Dev nD) (t : Fin cfg0.N) (b : Fin 2) (h w : Fin 56) (k : Fin 384) (a : Fin 32) (ha : a.val = 4 * t.val + b.val) :
    iblk m c 0 t (ix4 b h w k) = m ((c : Thread nD τ).loc main_arg0) (ix4 a k h w) := by
  blk_simp [iblk]
  rw [V_xt]
  have e : (win0_0.blk t).view.emb (ix4 b h w k) = (ix4 a h w k : S32x56x56x384.Idx) := by
    funext d
    apply Fin.ext
    fin_cases d <;> blk_simp [idx0 t] <;> simp [ix4] <;> omega
  rw [e]
  pointwise

theorem blk1 (c : Dev nD) (t : Fin cfg0.N) (b : Fin 2) (h w : Fin 56) (k : Fin 384) (a : Fin 32) (ha : a.val = 4 * t.val + 2 + b.val) :
    iblk m c 1 t (ix4 b h w k) = m ((c : Thread nD τ).loc main_arg0) (ix4 a k h w) := by
  blk_simp [iblk]
  rw [V_xt]
  have e : (win0_1.blk t).view.emb (ix4 b h w k) = (ix4 a h w k : S32x56x56x384.Idx) := by
    funext d
    apply Fin.ext
    fin_cases d <;> blk_simp [idx1 t] <;> simp [ix4] <;> omega
  rw [e]
  pointwise

theorem final6 (c : Dev nD) : (dats m 0 c).arrAt 6 cfg0.N
    = outP (table m c) (iblk m c 2 lastPt) (iblk m c 3 lastPt) (iblk m c 4 lastPt) (iblk m c 5 lastPt) := by
  refine (dats m 0 c).arrAt_eq_of_after_last 6 lastPt (by decide +kernel) _ fun j => ?_
  rw [after0_6]
  blk_simp
  rfl

theorem final7 (c : Dev nD) : (dats m 0 c).arrAt 7 cfg0.N
    = outI (table m c) (iblk m c 2 lastPt) (iblk m c 3 lastPt) (iblk m c 4 lastPt) (iblk m c 5 lastPt) := by
  refine (dats m 0 c).arrAt_eq_of_after_last 7 lastPt (by decide +kernel) _ fun j => ?_
  rw [after0_7]
  blk_simp
  rfl

/-- The windows that share an array are inputs. -/
theorem shared_in (c : Dev nD) : ∀ w w', w ≠ w' → Pipeline.arrRef (cfgs 0).spec w = Pipeline.arrRef (cfgs 0).spec w' →
    (dats m 0 c).arrAt w (cfgs 0).N = V0 m c (Proc.devRef .tc (Pipeline.arrRef (cfgs 0).spec w)) :=
  (dats m 0 c).arrAt_sharedIn (by decide) (V0 m c) (A_eq m c) _

theorem W_v0_0 (c : Dev nD) : Pipeline.afterTail₀ cfgs (dats m) 0 (V0 m) [hostOps1] c main_v0_0
    = shapeCast S32x16x1x1 (transpose S32x16 [1, 0] ((dats m 0 c).arrAt 6 cfg0.N) transposes_S16x32_S32x16_1_0) shapeCasts_S32x16_S32x16x1x1 := by
  have h := Pipeline.withArrays_arr_shared (cfgs 0).spec c (V0 m c) (fun w => (dats m 0 c).arrAt w (cfgs 0).N) (shared_in m c) 6
  rw [← h]
  unfold Pipeline.afterTail₀
  simp only [hostOps1, List.flatten_cons, List.flatten_nil, List.append_nil, StableHlo.after_cons, StableHlo.after_nil]
  after_results_simp
  rfl

theorem W_v0_1 (c : Dev nD) : Pipeline.afterTail₀ cfgs (dats m) 0 (V0 m) [hostOps1] c main_v0_1
    = shapeCast S32x2x1x1 (transpose S32x2 [1, 0] ((dats m 0 c).arrAt 7 cfg0.N) transposes_S2x32_S32x2_1_0) shapeCasts_S32x2_S32x2x1x1 := by
  have h := Pipeline.withArrays_arr_shared (cfgs 0).spec c (V0 m c) (fun w => (dats m 0 c).arrAt w (cfgs 0).N) (shared_in m c) 7
  rw [← h]
  unfold Pipeline.afterTail₀
  simp only [hostOps1, List.flatten_cons, List.flatten_nil, List.append_nil, StableHlo.after_cons, StableHlo.after_nil]
  after_results_simp
  rfl

/-- Row `h` of image `a`, as the table's row `a` reads it. -/
def rowsOf (c : Dev nD) (a : Fin 32) : Fin 56 → Vec F S1x1x56x384 .f32 :=
  imgs (iblk m c 0 ⟨a.val / 4, by have := a.isLt; show _ < grid0.N; rw [N_0]; omega⟩)
    (iblk m c 1 ⟨a.val / 4, by have := a.isLt; show _ < grid0.N; rw [N_0]; omega⟩) ⟨a.val % 4, Nat.mod_lt _ (by decide)⟩

theorem tableAt_eq (c : Dev nD) (a : Fin 32) (b : Fin 768) : tableAt m c a b = statAt (rowsOf m c a) b := rfl

theorem ldA_apply (x : Vec F S2x56x56x384 .f32) (h w : Fin 56) (k : Fin 384) :
    ldA x h (ix4 (0 : Fin 1) (0 : Fin 1) w k) = x (ix4 (0 : Fin 2) h w k) := by
  unfold ldA
  refine View.ld_unit_apply_of _ _ _ _ _ _ ?_
  intro d; fin_cases d <;> simp [ix4]

theorem ldB_apply (x : Vec F S2x56x56x384 .f32) (h w : Fin 56) (k : Fin 384) :
    ldB x h (ix4 (0 : Fin 1) (0 : Fin 1) w k) = x (ix4 (1 : Fin 2) h w k) := by
  unfold ldB
  refine View.ld_unit_apply_of _ _ _ _ _ _ ?_
  intro d; fin_cases d <;> simp [ix4]

theorem rowsOf_apply (c : Dev nD) (a : Fin 32) (h w : Fin 56) (k : Fin 384) :
    rowsOf m c a h (ix4 (0 : Fin 1) (0 : Fin 1) w k) = m ((c : Thread nD τ).loc main_arg0) (ix4 a k h w) := by
  have ha := a.isLt
  have cases4 : ∀ r : Fin 4, r.val = a.val % 4 → ∀ X Y : Vec F S2x56x56x384 .f32, ∀ v : F .f32,
      (a.val % 4 = 0 → X (ix4 (0 : Fin 2) h w k) = v) → (a.val % 4 = 1 → X (ix4 (1 : Fin 2) h w k) = v) →
      (a.val % 4 = 2 → Y (ix4 (0 : Fin 2) h w k) = v) → (a.val % 4 = 3 → Y (ix4 (1 : Fin 2) h w k) = v) →
      imgs X Y r h (ix4 (0 : Fin 1) (0 : Fin 1) w k) = v := by
    intro r hr X Y v h0 h1 h2 h3
    match r, hr with
    | 0, hr => exact (ldA_apply X h w k).trans (h0 hr.symm)
    | 1, hr => exact (ldB_apply X h w k).trans (h1 hr.symm)
    | 2, hr => exact (ldA_apply Y h w k).trans (h2 hr.symm)
    | 3, hr => exact (ldB_apply Y h w k).trans (h3 hr.symm)
  refine cases4 _ rfl _ _ _ (fun e => ?_) (fun e => ?_) (fun e => ?_) (fun e => ?_)
  · exact blk0 m c _ 0 h w k a (by simp; omega)
  · exact blk0 m c _ 1 h w k a (by simp; omega)
  · exact blk1 m c _ 0 h w k a (by simp; omega)
  · exact blk1 m c _ 1 h w k a (by simp; omega)

/-- The run: the two results are the router's results of the table, transposed and reshaped; the arguments are unchanged. -/
theorem run : θ_run defs (onTc (τ := τ) (main (F := F))) ⟨m, fun _ => 0, ρ⟩ (fun r => ∀ c : Dev nD,
      r.2.mem ((c.tc : Thread nD τ).loc main_v0_0)
        = shapeCast S32x16x1x1 (transpose S32x16 [1, 0] (outP (table m c) (m ((c : Thread nD τ).loc main_arg1))
            (m ((c : Thread nD τ).loc main_arg2)) (m ((c : Thread nD τ).loc main_arg3)) (bias2 m c)) transposes_S16x32_S32x16_1_0)
            shapeCasts_S32x16_S32x16x1x1
      ∧ r.2.mem ((c.tc : Thread nD τ).loc main_v0_1)
        = shapeCast S32x2x1x1 (transpose S32x2 [1, 0] (outI (table m c) (m ((c : Thread nD τ).loc main_arg1))
            (m ((c : Thread nD τ).loc main_arg2)) (m ((c : Thread nD τ).loc main_arg3)) (bias2 m c)) transposes_S2x32_S32x2_1_0)
            shapeCasts_S32x2_S32x2x1x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (frame m ρ))
  obtain ⟨hp, hf, -⟩ := h
  refine ⟨?_, ?_, hf c⟩
  · refine ((hp c).2 main_v0_0 (Pipeline.mem_restRefs_of main_v0_0 (by decide) (by decide))).trans ((W_v0_0 m c).trans ?_)
    rw [final6, blk2, blk3, blk4, blk5]
  · refine ((hp c).2 main_v0_1 (Pipeline.mem_restRefs_of main_v0_1 (by decide) (by decide))).trans ((W_v0_1 m c).trans ?_)
    rw [final7, blk2, blk3, blk4, blk5]

end Cert.KernelIdeal.Router

end
-- ==== Proof.Router.StatsIdeal.lean ====
module

public import proofs.«01_k».proof.Proof.Router.Stats
public import proofs.«01_k».proof.Proof.Router.Consts
public import Idealize.ShloMosaic.Lib.Pointwise

@[expose] public section

set_option maxRecDepth 16384

noncomputable section

namespace Cert.KernelIdeal.Router

open Cert.KernelIdeal Cert.KernelIdeal.Gen Cert.Consts
open Idealize.ShloMosaic Idealize.ShloMosaic.TcCoe

/-! The statistics of an image of real entries, one channel at a time. -/

/-- The fixed matrix of the difference along a row: `4` on the diagonal, `-1` beside it. -/
def tri (w v : Fin 56) : ℝ := 4 * (if w = v then 1 else 0) - ((if v.val + 1 = w.val then 1 else 0) + (if w.val + 1 = v.val then 1 else 0))

/-- The word of "on the diagonal". -/
theorem onDiag : ∀ w v : Fin 56,
    (BitVec.setWidth 32 (IntOp.cmpi .eq (IntOp.subi (BitVec.ofNat 32 w.val) (BitVec.ofNat 32 v.val)) 0#32)).toInt
      = if w = v then 1 else 0 := by
  decide +kernel

/-- The word of "beside the diagonal". -/
theorem besideDiag : ∀ w v : Fin 56,
    (BitVec.setWidth 32 (IntOp.cmpi .eq (IntOp.absi (IntOp.subi (BitVec.ofNat 32 w.val) (BitVec.ofNat 32 v.val))) 1#32)).toInt
      = (if v.val + 1 = w.val then 1 else 0) + (if w.val + 1 = v.val then 1 else 0) := by
  decide +kernel

theorem pay12_apply (w v : Fin 56) : k0_pay12 (F := Ideal) (ix2 w v) = ((tri w v : ℝ) : EReal) := by
  pointwise [k0_pay12]
  rw [ofBits_four, show ∀ b : BitVec 32, (FloatOps.sitofp (F := Ideal) .f32 b : EReal) = ((b.toInt : ℝ) : EReal) from fun _ => rfl,
    show ∀ b : BitVec 32, (FloatOps.sitofp (F := Ideal) .f32 b : EReal) = ((b.toInt : ℝ) : EReal) from fun _ => rfl,
    onDiag, besideDiag, ← EReal.coe_mul, ← EReal.coe_sub]
  congr 1
  unfold tri
  push_cast
  rfl

/-- The entry of a channel at row `h`, column `w` counted from `1`, zero outside. -/
def padded (X : Fin 56 → Fin 56 → ℝ) (h w : ℕ) : ℝ :=
  if e : (0 < h ∧ h < 57) ∧ (0 < w ∧ w < 57) then X ⟨h - 1, by omega⟩ ⟨w - 1, by omega⟩ else 0

/-- The five-point difference of a channel at row `h`, column `w`. -/
def lap (X : Fin 56 → Fin 56 → ℝ) (h w : ℕ) : ℝ :=
  4 * padded X (h + 1) (w + 1) - padded X h (w + 1) - padded X (h + 2) (w + 1) - padded X (h + 1) w - padded X (h + 1) (w + 2)

theorem padded_in (X : Fin 56 → Fin 56 → ℝ) (h w : Fin 56) : padded X (h.val + 1) (w.val + 1) = X h w := by
  unfold padded
  rw [dif_pos ⟨⟨by omega, by omega⟩, by omega, by omega⟩]
  rfl

theorem padded_top (X : Fin 56 → Fin 56 → ℝ) (w : ℕ) : padded X 0 w = 0 := dif_neg (by omega)

theorem padded_bottom (X : Fin 56 → Fin 56 → ℝ) (w : ℕ) : padded X 57 w = 0 := dif_neg (by omega)

/-- Summing against a row of the fixed matrix is the difference along the row. -/
theorem sum_tri (X : Fin 56 → Fin 56 → ℝ) (h w : Fin 56) :
    ∑ v : Fin 56, tri w v * X h v
      = 4 * padded X (h.val + 1) (w.val + 1) - padded X (h.val + 1) w.val - padded X (h.val + 1) (w.val + 2) := by
  have h0 : ∑ v : Fin 56, (if w = v then (1 : ℝ) else 0) * X h v = padded X (h.val + 1) (w.val + 1) := by
    rw [padded_in]
    simp
  have h1 : ∑ v : Fin 56, (if v.val + 1 = w.val then (1 : ℝ) else 0) * X h v = padded X (h.val + 1) w.val := by
    by_cases hw : 0 < w.val
    · obtain ⟨u, hu⟩ : ∃ u : Fin 56, w.val = u.val + 1 := ⟨⟨w.val - 1, by omega⟩, by simp only; omega⟩
      rw [hu, padded_in, Finset.sum_eq_single u]
      · simp
      · intro v _ hv
        rw [if_neg fun e => hv (Fin.ext (by omega)), zero_mul]
      · simp
    · rw [show padded X (h.val + 1) w.val = 0 from dif_neg (by omega)]
      refine Finset.sum_eq_zero fun v _ => ?_
      rw [if_neg (by omega), zero_mul]
  have h2 : ∑ v : Fin 56, (if w.val + 1 = v.val then (1 : ℝ) else 0) * X h v = padded X (h.val + 1) (w.val + 2) := by
    by_cases hw : w.val + 1 < 56
    · obtain ⟨u, hu⟩ : ∃ u : Fin 56, u.val = w.val + 1 := ⟨⟨w.val + 1, hw⟩, rfl⟩
      rw [show w.val + 2 = u.val + 1 by omega, padded_in, Finset.sum_eq_single u]
      · simp [hu]
      · intro v _ hv
        rw [if_neg fun e => hv (Fin.ext (by omega)), zero_mul]
      · simp
    · rw [show padded X (h.val + 1) (w.val + 2) = 0 from dif_neg (by omega)]
      refine Finset.sum_eq_zero fun v _ => ?_
      rw [if_neg (by omega), zero_mul]
  rw [← h0, ← h1, ← h2, Finset.mul_sum, ← Finset.sum_sub_distrib, ← Finset.sum_sub_distrib]
  refine Finset.sum_congr rfl fun v _ => ?_
  unfold tri
  ring

section Channel

variable {l : Fin 56 → Vec Ideal S1x1x56x384 .f32} {k : Fin 384} {X : Fin 56 → Fin 56 → ℝ}

theorem rowOf_apply (h w : Fin 56) (hl : l h (ix4 (0 : Fin 1) (0 : Fin 1) w k) = (X h w : EReal)) :
    rowOf (l h) (ix2 w k) = (X h w : EReal) := by
  pointwise [rowOf]
  exact hl

variable (hl : ∀ h w, l h (ix4 (0 : Fin 1) (0 : Fin 1) w k) = (X h w : EReal))
include hl

theorem rowSum_apply (n : ℕ) (w : Fin 56) :
    rowSum l n (ix2 w k) = ((∑ i ∈ Finset.range n, X (Fin.ofNat 56 i) w : ℝ) : EReal) := by
  induction n with
  | zero =>
    rw [Finset.sum_range_zero, ← ofBits_zero]
    rfl
  | succ n ih =>
    rw [Finset.sum_range_succ, EReal.coe_add, ← ih, ← rowOf_apply _ w (hl _ w)]
    rfl

theorem alongRow_apply (n : ℕ) (w : Fin 56) :
    alongRow l n (ix2 w k) = ((∑ v : Fin 56, tri w v * X (Fin.ofNat 56 n) v : ℝ) : EReal) := by
  pointwise [alongRow]
  rw [coe_sum]
  refine Finset.sum_congr rfl fun v _ => ?_
  rw [EReal.coe_mul, ← pay12_apply]
  exact congrArg _ (rowOf_apply _ v (hl _ v))

theorem along_real (h w : Fin 56) :
    alongRow l h.val (ix2 w k)
      = ((4 * padded X (h.val + 1) (w.val + 1) - padded X (h.val + 1) w.val - padded X (h.val + 1) (w.val + 2) : ℝ) : EReal) := by
  rw [alongRow_apply hl, ← sum_tri, show Fin.ofNat 56 h.val = h from Fin.ext (Nat.mod_eq_of_lt h.isLt)]

theorem row_real (n : ℕ) (hn : n < 56) (w : Fin 56) :
    rowOf (l (Fin.ofNat 56 n)) (ix2 w k) = ((padded X (n + 1) (w.val + 1) : ℝ) : EReal) := by
  rw [rowOf_apply _ w (hl _ w), show Fin.ofNat 56 n = (⟨n, hn⟩ : Fin 56) from Fin.ext (Nat.mod_eq_of_lt hn)]
  exact congrArg _ (padded_in X ⟨n, hn⟩ w).symm

theorem lapRow_apply (n : ℕ) (hn : n < 55) (w : Fin 56) : lapRow l n (ix2 w k) = ((lap X n w.val : ℝ) : EReal) := by
  cases n with
  | zero =>
    show alongRow l 0 (ix2 w k) - rowOf (l (Fin.ofNat 56 1)) (ix2 w k) = _
    rw [show (0 : ℕ) = ((0 : Fin 56) : ℕ) from rfl, along_real hl 0 w, row_real hl 1 (by omega), ← EReal.coe_sub]
    congr 1
    show _ = lap X 0 w.val
    unfold lap
    rw [padded_top]
    simp only [Fin.val_zero]
    ring
  | succ n =>
    show alongRow l (n + 1) (ix2 w k) - rowOf (l (Fin.ofNat 56 n)) (ix2 w k) - rowOf (l (Fin.ofNat 56 (n + 2))) (ix2 w k) = _
    have e := along_real hl ⟨n + 1, by omega⟩ w
    simp only at e
    rw [e, row_real hl n (by omega), row_real hl (n + 2) (by omega), ← EReal.coe_sub, ← EReal.coe_sub]
    congr 1
    unfold lap
    ring

theorem abs_apply {s : Shape} {v : FVec Ideal s .f32} {j : s.Idx} {r : ℝ} (h : v j = (r : EReal)) :
    absf v j = ((|r| : ℝ) : EReal) := by
  show max (v j) (-(v j)) = _
  rw [h, max_neg_coe]

theorem lapSum_apply (n : ℕ) (hn : n ≤ 55) (w : Fin 56) :
    lapSum l n (ix2 w k) = ((∑ i ∈ Finset.range n, |lap X i w.val| : ℝ) : EReal) := by
  induction n with
  | zero =>
    rw [Finset.sum_range_zero, ← ofBits_zero]
    rfl
  | succ n ih =>
    rw [Finset.sum_range_succ, EReal.coe_add, ← ih (by omega), ← abs_apply hl (lapRow_apply hl n (by omega) w)]
    rfl

theorem lapTotal_apply (w : Fin 56) :
    lapTotal l (ix2 w k) = ((∑ i ∈ Finset.range 56, |lap X i w.val| : ℝ) : EReal) := by
  have e : subf (alongRow l 55) (rowOf (l (Fin.ofNat 56 54))) (ix2 w k) = ((lap X 55 w.val : ℝ) : EReal) := by
    show alongRow l 55 (ix2 w k) - rowOf (l (Fin.ofNat 56 54)) (ix2 w k) = _
    have e' := along_real hl 55 w
    simp only [show ((55 : Fin 56) : ℕ) = 55 from rfl] at e'
    rw [e', row_real hl 54 (by omega), ← EReal.coe_sub]
    congr 1
    show _ = lap X 55 w.val
    unfold lap
    rw [padded_bottom]
    ring
  rw [Finset.sum_range_succ, EReal.coe_add, ← lapSum_apply hl 55 le_rfl w, ← abs_apply hl e]
  rfl

end Channel

theorem inv_hw : (Named.named κ "inv_hw" 0x39A72F05#32 : Ideal .f32) = ((1 / 3136 : ℝ) : EReal) := by
  rw [IdealRules.named_const.ideal_named_scalar _ _ _ _ rfl]

theorem meanOf_apply {acc : FVec Ideal S56x384 .f32} {k : Fin 384} {g : Fin 56 → ℝ} (h : ∀ w, acc (ix2 w k) = (g w : EReal)) :
    meanOf acc (ix2 (0 : Fin 1) k) = (((∑ w, g w) * (1 / 3136) : ℝ) : EReal) := by
  pointwise [meanOf]
  rw [EReal.coe_mul, ← inv_hw, coe_sum]
  exact congrArg (· * _) (Finset.sum_congr rfl fun w _ => h w)

/-- The mean of a channel and the mean of its absolute differences, as reals. -/
def statReal (X : Fin 384 → Fin 56 → Fin 56 → ℝ) (b : Fin 768) : ℝ :=
  if h : b.val < 384 then (∑ i : Fin 56, ∑ w : Fin 56, X ⟨b.val, h⟩ i w) * (1 / 3136)
  else (∑ i : Fin 56, ∑ w : Fin 56, |lap (X ⟨b.val - 384, by omega⟩) i.val w.val|) * (1 / 3136)

theorem statAt_apply {l : Fin 56 → Vec Ideal S1x1x56x384 .f32} {X : Fin 384 → Fin 56 → Fin 56 → ℝ}
    (hl : ∀ k h w, l h (ix4 (0 : Fin 1) (0 : Fin 1) w k) = (X k h w : EReal)) (b : Fin 768) :
    statAt l b = ((statReal X b : ℝ) : EReal) := by
  unfold statAt statReal
  split
  · next h =>
    unfold meanStat
    rw [meanOf_apply fun w => rowSum_apply (hl _) 56 w, Finset.sum_comm (γ := Fin 56)]
    simp only [Finset.sum_range]
    refine congrArg (fun r : ℝ => ((r * (1 / 3136) : ℝ) : EReal)) (Finset.sum_congr rfl fun i _ => Finset.sum_congr rfl fun w _ => ?_)
    rw [show Fin.ofNat 56 i.val = i from Fin.ext (Nat.mod_eq_of_lt i.isLt)]
  · next h =>
    unfold freqStat
    rw [meanOf_apply fun w => lapTotal_apply (hl _) w, Finset.sum_comm (γ := Fin 56)]
    simp only [Finset.sum_range]

end Cert.KernelIdeal.Router

end
-- ==== Proof.Router.RefStats.lean ====
module

public import proofs.«01_k».proof.Proof.Gen.ReferenceIdeal.Run
public import proofs.«01_k».proof.Proof.Router.StatsIdeal

@[expose] public section

set_option maxRecDepth 16384

noncomputable section

namespace Cert.ReferenceIdeal.Router

open Cert.ReferenceIdeal Cert.ReferenceIdeal.Gen Cert.ReferenceIdeal.Value Cert.Consts
open Idealize.ShloMosaic Idealize.ShloMosaic.TcCoe Idealize.SL.Sem Idealize.ShloMosaic.StableHlo

open Cert.KernelIdeal.Router (padded lap statReal)

/-! The reference's table of statistics, from real entries. -/

/-- The input with a border of zeros. -/
def bordered (x : FVec Ideal S32x384x56x56 .f32) : FVec Ideal S32x384x58x58 .f32 :=
  pad S32x384x58x58 ![0, 0, 1, 1] ![0, 0, 1, 1] ![0, 0, 0, 0] x (sitofp .f32 (constantI S_ 32 0#32)) pads_S32x384x56x56_S32x384x58x58_000_000_110_110 h_S_

/-- The five-point difference. -/
def high (x : FVec Ideal S32x384x56x56 .f32) : FVec Ideal S32x384x56x56 .f32 :=
  subf (subf (subf (subf (mulf (broadcastInDim S32x384x56x56 ![] bcast_S_S32x384x56x56 (constant S_ .f32 0x40800000#32)) x)
    (extractStridedSlice S32x384x56x56 ![0, 0, 0, 1] (bordered x) slices_S32x384x58x58_S32x384x56x56_0_0_0_1))
    (extractStridedSlice S32x384x56x56 ![0, 0, 2, 1] (bordered x) slices_S32x384x58x58_S32x384x56x56_0_0_2_1))
    (extractStridedSlice S32x384x56x56 ![0, 0, 1, 0] (bordered x) slices_S32x384x58x58_S32x384x56x56_0_0_1_0))
    (extractStridedSlice S32x384x56x56 ![0, 0, 1, 2] (bordered x) slices_S32x384x58x58_S32x384x56x56_0_0_1_2)

/-- The mean over an image's pixels. -/
def mean (x : FVec Ideal S32x384x56x56 .f32) : FVec Ideal S32x384 .f32 :=
  Host.divf (Host.reduceAdd x (constant S_ .f32 0x00000000#32) reducesTo_S32x384x56x56_S32x384_d2_3 h_S_)
    (broadcastInDim S32x384 ![] bcast_S_S32x384 (constant S_ .f32 0x45440000#32))

/-- The means beside the means of the absolute differences. -/
def combined (x : FVec Ideal S32x384x56x56 .f32) : FVec Ideal S32x768 .f32 :=
  concatenate S32x768 1 [⟨S32x384, mean x⟩, ⟨S32x384, mean (Host.absf (high x))⟩] concatenates_S32x384_S32x384_S32x768_d1

theorem v0_eq (V0 : Valuation τ sig (Elt Ideal)) : res_main_v0 V0 = bordered (V0 (Proc.devRef .tc main_arg0)) := rfl

section
variable {x : FVec Ideal S32x384x56x56 .f32} {X : Fin 32 → Fin 384 → Fin 56 → Fin 56 → ℝ}

theorem mean_apply (h : ∀ a k i w, x (ix4 a k i w) = (X a k i w : EReal)) (a : Fin 32) (k : Fin 384) :
    mean x (ix2 a k) = (((∑ i, ∑ w, X a k i w) * (1 / 3136) : ℝ) : EReal) := by
  pointwise [mean]
  rw [ofBits_pixels, Ideal.div_coe (by norm_num), EReal.coe_mul, coe_sum]
  refine congrArg (· * _) (Finset.sum_congr rfl fun i _ => ?_)
  rw [coe_sum]
  exact Finset.sum_congr rfl fun w _ => h a k i w

theorem bordered_apply (h : ∀ a k i w, x (ix4 a k i w) = (X a k i w : EReal)) (a : Fin 32) (k : Fin 384) (i w : Fin 58) :
    bordered x (ix4 a k i w) = ((padded (X a k) i.val w.val : ℝ) : EReal) := by
  pointwise [bordered]
  unfold padded
  by_cases e : (0 < i.val ∧ i.val < 57) ∧ (0 < w.val ∧ w.val < 57)
  · rw [dif_pos e, dif_pos (by omega)]
    exact h a k _ _
  · rw [dif_neg e, dif_neg (by omega)]
    show (((0#32 : BitVec 32).toInt : ℝ) : EReal) = _
    simp

theorem high_apply (h : ∀ a k i w, x (ix4 a k i w) = (X a k i w : EReal)) (a : Fin 32) (k : Fin 384) (i w : Fin 56) :
    high x (ix4 a k i w) = ((lap (X a k) i.val w.val : ℝ) : EReal) := by
  pointwise [high]
  rw [ofBits_four, h a k i w, bordered_apply h, bordered_apply h, bordered_apply h, bordered_apply h, ← EReal.coe_mul,
    ← EReal.coe_sub, ← EReal.coe_sub, ← EReal.coe_sub, ← EReal.coe_sub, ← Cert.KernelIdeal.Router.padded_in (X a k) i w]
  simp only [Nat.add_comm 1, Nat.add_comm 2]
  rfl

theorem combined_apply (h : ∀ a k i w, x (ix4 a k i w) = (X a k i w : EReal)) (a : Fin 32) (b : Fin 768) :
    combined x (ix2 a b) = ((statReal (X a) b : ℝ) : EReal) := by
  have hf : ∀ a k i w, Host.absf (high x) (ix4 a k i w) = ((|lap (X a k) i.val w.val| : ℝ) : EReal) := fun a k i w => by
    show max (high x (ix4 a k i w)) (-(high x (ix4 a k i w))) = _
    rw [high_apply h, max_neg_coe]
  pointwise [combined]
  unfold statReal
  split
  · exact mean_apply h a _
  · exact mean_apply (X := fun a k i w => |lap (X a k) i.val w.val|) hf a _
end

end Cert.ReferenceIdeal.Router

end
-- ==== Proof.Router.Logits.lean ====
module

public import proofs.«01_k».proof.Proof.Router.RefStats

@[expose] public section

set_option maxRecDepth 16384

noncomputable section

namespace Cert.ReferenceIdeal.Router

open Cert.ReferenceIdeal Cert.ReferenceIdeal.Gen Cert.ReferenceIdeal.Value Cert.Consts
open Idealize.ShloMosaic Idealize.ShloMosaic.TcCoe Idealize.SL.Sem Idealize.ShloMosaic.StableHlo

open Cert.KernelIdeal.Router (padded lap statReal)

/-! The router's logits, of a table of statistics: the kernel's and the reference's are the same sums. -/

/-- A hidden unit. -/
def hidden (t : Fin 32 → Fin 768 → EReal) (w1 : FVec Ideal S384x768 .f32) (b1 : FVec Ideal S384 .f32) (a : Fin 32) (j : Fin 384) : EReal :=
  max ((∑ b : Fin 768, t a b * w1 (ix2 j b)) + b1 (ix1 j)) 0

/-- An expert's logit. -/
def logit (t : Fin 32 → Fin 768 → EReal) (w1 : FVec Ideal S384x768 .f32) (b1 : FVec Ideal S384 .f32) (w2 : FVec Ideal S16x384 .f32)
    (b2 : FVec Ideal S16 .f32) (a : Fin 32) (e : Fin 16) : EReal :=
  (∑ j : Fin 384, hidden t w1 b1 a j * w2 (ix2 e j)) + b2 (ix1 e)

/-- Real statistics and real parameters give real logits. -/
theorem logit_real {t : Fin 32 → Fin 768 → EReal} {w1 : FVec Ideal S384x768 .f32} {b1 : FVec Ideal S384 .f32}
    {w2 : FVec Ideal S16x384 .f32} {b2 : FVec Ideal S16 .f32} (ht : ∀ a b, IsReal (t a b)) (hw1 : ∀ j, IsReal (w1 j)) (hb1 : ∀ j, IsReal (b1 j))
    (hw2 : ∀ j, IsReal (w2 j)) (hb2 : ∀ j, IsReal (b2 j)) (a : Fin 32) (e : Fin 16) : IsReal (logit t w1 b1 w2 b2 a e) :=
  .add (.sum _ fun j => .mul (.max (.add (.sum _ fun b => .mul (ht a b) (hw1 _)) (hb1 _)) (.coe 0)) (hw2 _)) (hb2 _)

/-- The kernel's logits. -/
theorem pay4_apply (t : FVec Ideal S32x768 .f32) (w1 : FVec Ideal S384x768 .f32) (b1 : FVec Ideal S384 .f32) (w2 : FVec Ideal S16x384 .f32)
    (b2 : FVec Ideal S16 .f32) (a : Fin 32) (e : Fin 16) :
    Cert.KernelIdeal.Gen.k0_pay4 (F := Ideal) t w1 b1 w2 (shapeCast S1x16 b2 Cert.KernelIdeal.Facts₀.shapeCasts_S16_S1x16) (ix2 a e)
      = logit (fun a b => t (ix2 a b)) w1 b1 w2 b2 a e := by
  pointwise [Cert.KernelIdeal.Gen.k0_pay4]
  rfl

/-- The reference's logits. -/
theorem v29_apply (V0 : Valuation τ sig (Elt Ideal)) (a : Fin 32) (e : Fin 16) :
    res_main_v29 V0 (ix2 a e)
      = logit (fun a b => combined (V0 (Proc.devRef .tc main_arg0)) (ix2 a b)) (V0 (Proc.devRef .tc main_arg1)) (V0 (Proc.devRef .tc main_arg2))
          (V0 (Proc.devRef .tc main_arg3)) (V0 (Proc.devRef .tc main_arg4)) a e := by
  have e0 : res_main_v29 V0 =
    addf (Host.dotGeneral dot_S32x384_S384x16_S32x16_1_0_0_1_n_n none (maximumf (addf (Host.dotGeneral dot_S32x768_S768x384_S32x384_1_0_0_1_n_n none (combined (V0 (Proc.devRef .tc main_arg0))) (transpose S768x384 [1, 0] (V0 (Proc.devRef .tc main_arg1)) transposes_S384x768_S768x384_1_0)) (broadcastInDim S32x384 ![0, 1] bcast_S1x384_S32x384_0_1 (broadcastInDim S1x384 ![1] bcast_S384_S1x384_1 (V0 (Proc.devRef .tc main_arg2))))) (broadcastInDim S32x384 ![] bcast_S_S32x384 (constant S_ .f32 0x00000000#32))) (transpose S384x16 [1, 0] (V0 (Proc.devRef .tc main_arg3)) transposes_S16x384_S384x16_1_0)) (broadcastInDim S32x16 ![0, 1] bcast_S1x16_S32x16_0_1 (broadcastInDim S1x16 ![1] bcast_S16_S1x16_1 (V0 (Proc.devRef .tc main_arg4)))) := rfl
  rw [e0]
  pointwise
  rfl

end Cert.ReferenceIdeal.Router

end
-- ==== Proof.Router.TopTwo.lean ====
module

public import proofs.«01_k».proof.Proof.Router.Consts
public import Idealize.ShloMosaic.Lib.Pointwise
public import Idealize.ShloMosaic.Lib.SortPrefix

@[expose] public section

noncomputable section

/-! The two greatest of sixteen extended reals, of equal ones the earlier: as two rounds of "the maximum, then the least
position that holds it", and as the first two positions of a stable sort. -/

namespace Cert.TopTwo

open Idealize.ShloMosaic

variable {n : ℕ}

/-- Position `p` of `s` holds the greatest entry of `L` on `s`, and no earlier position of `s` does. -/
structure IsFirstMax (L : Fin n → EReal) (s : Finset (Fin n)) (p : Fin n) : Prop where
  mem : p ∈ s
  le : ∀ e ∈ s, L e ≤ L p
  first : ∀ e ∈ s, L e = L p → p ≤ e

theorem exists_firstMax (L : Fin n → EReal) {s : Finset (Fin n)} (hs : s.Nonempty) : ∃ p, IsFirstMax L s p := by
  obtain ⟨p, hp, hle⟩ := s.exists_max_image L hs
  obtain ⟨q, hq, hmin⟩ := (s.filter fun e => L e = L p).exists_min_image id ⟨p, by simp [hp]⟩
  simp only [Finset.mem_filter, id] at hq hmin
  exact ⟨q, hq.1, fun e he => hq.2 ▸ hle e he, fun e he h => hmin e ⟨he, h.trans hq.2⟩⟩

/-- The maximum of all entries. -/
theorem fold_max_eq {L : Fin n → EReal} {p : Fin n} (h : IsFirstMax L Finset.univ p) : Finset.univ.fold max ⊥ L = L p := by
  refine le_antisymm ?_ ?_
  · rw [Finset.fold_max_le]
    exact ⟨bot_le, h.le⟩
  · rw [Finset.le_fold_max]
    exact Or.inr ⟨p, h.mem, le_rfl⟩

theorem toInt_minsi (x y : BitVec 32) : (IntOp.minsi x y).toInt = min x.toInt y.toInt := by
  unfold IntOp.minsi
  split
  · next h => rw [BitVec.slt_iff_toInt_lt] at h; omega
  · next h => rw [BitVec.slt_iff_toInt_lt] at h; omega

/-- A word below all others is their minimum. -/
theorem fold_minsi_eq {f : Fin n → BitVec 32} {p : Fin n} (init : BitVec 32) (hi : (f p).toInt ≤ init.toInt)
    (h : ∀ e, (f p).toInt ≤ (f e).toInt) : Finset.univ.fold IntOp.minsi init f = f p := by
  have hr : ∀ {x y z : BitVec 32}, x.toInt ≤ (IntOp.minsi y z).toInt ↔ x.toInt ≤ y.toInt ∧ x.toInt ≤ z.toInt := by
    intro x y z
    rw [toInt_minsi, le_min_iff]
  refine BitVec.eq_of_toInt_eq (le_antisymm ?_ ?_)
  · rw [← Finset.insert_erase (Finset.mem_univ p), Finset.fold_insert (Finset.notMem_erase _ _), toInt_minsi]
    exact min_le_left _ _
  · exact (Finset.fold_op_rel_iff_and (r := fun x y : BitVec 32 => x.toInt ≤ y.toInt) hr).mpr ⟨hi, fun e _ => h e⟩

theorem toInt_ofNat {a : ℕ} (h : a < 2 ^ 31) : (BitVec.ofNat 32 a).toInt = a := by
  rw [BitVec.toInt_ofNat', Int.bmod_def]
  omega

/-- The least position that holds the maximum, as the programs compute it. -/
theorem fold_first_eq {L : Fin 16 → EReal} {p : Fin 16} (h : IsFirstMax L Finset.univ p) :
    Finset.univ.fold IntOp.minsi 2147483647#32 (fun e : Fin 16 => if L e = L p then BitVec.ofNat 32 e.val else 16#32)
      = BitVec.ofNat 32 p.val := by
  have e := fold_minsi_eq (f := fun e : Fin 16 => if L e = L p then BitVec.ofNat 32 e.val else 16#32) (p := p) 2147483647#32
    (by rw [if_pos rfl, toInt_ofNat (by omega)]; have := p.isLt; simp only [show (2147483647#32).toInt = 2147483647 from rfl]; omega)
    (fun e => by
      rw [if_pos rfl, toInt_ofNat (by omega)]
      split
      · next he =>
        have := Fin.le_def.mp (h.first e (Finset.mem_univ e) he)
        rw [toInt_ofNat (by omega)]
        omega
      · have := p.isLt
        simp only [show (16#32).toInt = 16 from rfl]
        omega)
  rw [e, if_pos rfl]

/-- The entries with position `p`'s set to `-∞`. -/
def masked (L : Fin n → EReal) (p e : Fin n) : EReal := if e = p then ⊥ else L e

theorem masked_firstMax {L : Fin n → EReal} {p q : Fin n} (h : IsFirstMax L (Finset.univ.erase p) q) (hq : L q ≠ ⊥) :
    IsFirstMax (masked L p) Finset.univ q ∧ masked L p q = L q := by
  have hqp : q ≠ p := (Finset.mem_erase.mp h.mem).1
  have e : masked L p q = L q := if_neg hqp
  refine ⟨⟨Finset.mem_univ q, fun e' _ => ?_, fun e' _ he => ?_⟩, e⟩
  · rw [e]
    unfold masked
    split
    · exact bot_le
    · next hne => exact h.le e' (Finset.mem_erase.mpr ⟨hne, Finset.mem_univ _⟩)
  · rw [e] at he
    unfold masked at he
    split at he
    · exact absurd he.symm hq
    · next hne => exact h.first e' (Finset.mem_erase.mpr ⟨hne, Finset.mem_univ _⟩) he

/-! ### The stable sort -/

/-- Greater entries first, of equal ones the earlier. -/
def before (L : Fin n → EReal) (a b : Fin n) : Bool := decide (L b < L a) || (decide (L a = L b) && decide (a < b))

theorem before_total (L : Fin n → EReal) : StrictTotalBefore (before L) :=
  .of_key_then_position (fun x y : EReal => decide (y < x)) L (by simp)
    (fun a b c h h' => by simp only [decide_eq_true_eq] at *; exact h'.trans h)
    (fun a b => by simp only [decide_eq_true_eq]; rcases lt_trichotomy a b with h | h | h <;> simp [h])

/-- A stable sort by the entries alone is the sort by entry and then position, when the positions come in order. -/
theorem stableSort_eq (L : Fin n → EReal) (l : List (Fin n)) (hl : l.Pairwise (· < ·)) :
    stableSort (fun a b => decide (L b < L a)) l = stableSort (before L) l := by
  induction l with
  | nil => rfl
  | cons a l ih =>
    obtain ⟨ha, hl'⟩ := List.pairwise_cons.mp hl
    show insertBefore _ a (stableSort _ l) = insertBefore _ a (stableSort _ l)
    rw [ih hl']
    refine insertBefore_congr _ _ a _ fun b hb => ?_
    have hab := ha b ((perm_stableSort _ l).mem_iff.mp hb)
    simp [before, not_lt.mpr hab.le]

theorem sortedFrom_eq {L : Fin n → EReal} {p q : Fin n} (hn : 2 ≤ n) (hp : IsFirstMax L Finset.univ p) (hq : IsFirstMax L (Finset.univ.erase p) q)
    (i : Fin 2) : sortedFrom (fun a b => decide (L b < L a)) (i.castLE hn) = ![p, q] i := by
  have hqp : q ≠ p := (Finset.mem_erase.mp hq.mem).1
  have e : sortedFrom (fun a b => decide (L b < L a)) (i.castLE hn) = sortedFrom (before L) (i.castLE hn) :=
    List.get_of_eq (stableSort_eq L _ (List.pairwise_lt_finRange n)) _
  have key : ∀ a b : Fin n, L b ≤ L a → (L b = L a → a ≤ b) → before L b a = false := by
    intro a b h h'
    unfold before
    simp only [Bool.or_eq_false_iff, decide_eq_false_iff_not, not_lt, Bool.and_eq_false_iff]
    refine ⟨h, ?_⟩
    by_cases he : L b = L a
    · exact Or.inr (h' he)
    · exact Or.inl he
  rw [e]
  refine (before_total L).sortedFrom_eq_of_prefix hn ![p, q] ?_ ?_ ?_ i
  · intro i j
    fin_cases i <;> fin_cases j <;> simp [hqp, hqp.symm]
  · intro i j hij
    fin_cases i <;> fin_cases j <;> simp at hij ⊢
    exact key p q (hp.le q (Finset.mem_univ _)) (hp.first q (Finset.mem_univ _))
  · intro i r hr
    have hrp : r ≠ p := fun e => hr 0 e.symm
    have hm : r ∈ Finset.univ.erase p := Finset.mem_erase.mpr ⟨hrp, Finset.mem_univ _⟩
    fin_cases i
    · exact key p r (hp.le r (Finset.mem_univ _)) (hp.first r (Finset.mem_univ _))
    · exact key q r (hq.le r hm) (hq.first r hm)

end Cert.TopTwo

end
-- ==== Proof.Router.Picks.lean ====
module

public import proofs.«01_k».proof.Proof.Router.Stats
public import proofs.«01_k».proof.Proof.Router.TopTwo

@[expose] public section

set_option maxRecDepth 16384

noncomputable section

namespace Cert.KernelIdeal.Router

open Cert.KernelIdeal Cert.KernelIdeal.Gen Cert.Consts
open Idealize.ShloMosaic Idealize.ShloMosaic.TcCoe

open Cert.TopTwo

/-! The router's two results from one row's logits: the first and second greatest, and their weights. -/

theorem neg_const : (Named.named κ "neg" 0xFF61B1E6#32 : Ideal .f32) = (⊥ : EReal) := by
  rw [IdealRules.named_const.ideal_named_scalar _ _ _ _ rfl]

/-- A select on "this position" between small positions. -/
theorem select_position {α : Type} (e p : Fin 16) (x y : α) :
    Scalar.select (IntOp.cmpi .eq (BitVec.ofNat 32 e.val) (BitVec.ofNat 32 p.val)) x y = if e = p then x else y := by
  have h : ∀ e p : Fin 16, (BitVec.ofNat 32 e.val == BitVec.ofNat 32 p.val) = decide (e = p) := by decide
  unfold Scalar.select IntOp.cmpi
  simp only [h]
  by_cases he : e = p <;> simp [he]

/-- The first and the second weight, of the two greatest logits. -/
def weight (x y : ℝ) (i : Fin 2) : ℝ := ![1 / (1 + Real.exp (y - x)), Real.exp (y - x) / (1 + Real.exp (y - x))] i

/-- The weights at their experts. -/
def spread (x y : ℝ) (p q e : Fin 16) : ℝ := if e = p then weight x y 0 else if e = q then weight x y 1 else 0

section Row

variable (t : Vec Ideal S32x768 .f32) (w1 : Vec Ideal S384x768 .f32) (b1 : Vec Ideal S384 .f32) (w2 : Vec Ideal S16x384 .f32)
  (b2 : Vec Ideal S1x16 .f32) (a : Fin 32)

/-- A row's logits. -/
def rowLogits (e : Fin 16) : EReal := k0_pay4 (F := Ideal) t w1 b1 w2 b2 (ix2 a e)

variable {t w1 b1 w2 b2 a} {p q : Fin 16}

theorem pay5_apply (hp : IsFirstMax (rowLogits t w1 b1 w2 b2 a) Finset.univ p) :
    k0_pay5 (F := Ideal) t w1 b1 w2 b2 (ix2 a (0 : Fin 1)) = rowLogits t w1 b1 w2 b2 a p := by
  pointwise [k0_pay5]
  rw [ofBits_bot]
  exact fold_max_eq hp

theorem pay6_apply (hp : IsFirstMax (rowLogits t w1 b1 w2 b2 a) Finset.univ p) :
    k0_pay6 (F := Ideal) t w1 b1 w2 b2 (ix2 a (0 : Fin 1)) = BitVec.ofNat 32 p.val := by
  pointwise [k0_pay6]
  rw [pay5_apply hp]
  exact fold_first_eq hp

theorem pay7_apply (hp : IsFirstMax (rowLogits t w1 b1 w2 b2 a) Finset.univ p) (e : Fin 16) :
    k0_pay7 (F := Ideal) t w1 b1 w2 b2 (ix2 a e) = masked (rowLogits t w1 b1 w2 b2 a) p e := by
  pointwise [k0_pay7]
  rw [pay6_apply hp, neg_const]
  exact select_position e p _ _

variable (hp : IsFirstMax (rowLogits t w1 b1 w2 b2 a) Finset.univ p)
  (hq : IsFirstMax (rowLogits t w1 b1 w2 b2 a) (Finset.univ.erase p) q) (hb : rowLogits t w1 b1 w2 b2 a q ≠ ⊥)
include hp hq hb

theorem pay8_apply : k0_pay8 (F := Ideal) t w1 b1 w2 b2 (ix2 a (0 : Fin 1)) = rowLogits t w1 b1 w2 b2 a q := by
  pointwise [k0_pay8]
  rw [ofBits_bot]
  simp only [pay7_apply hp]
  obtain ⟨h, e⟩ := masked_firstMax hq hb
  rw [← e]
  exact fold_max_eq h

theorem pay9_apply : k0_pay9 (F := Ideal) t w1 b1 w2 b2 (ix2 a (0 : Fin 1)) = BitVec.ofNat 32 q.val := by
  pointwise [k0_pay9]
  simp only [pay8_apply hp hq hb, pay7_apply hp]
  obtain ⟨h, e⟩ := masked_firstMax hq hb
  rw [← e]
  exact fold_first_eq h

theorem outI_apply (i : Fin 2) : outI (F := Ideal) t w1 b1 w2 b2 (ix2 i a) = BitVec.ofNat 32 ((![p, q] : Fin 2 → Fin 16) i).val := by
  pointwise [outI, k0_pay3]
  fin_cases i
  · exact pay6_apply hp
  · exact pay9_apply hp hq hb

theorem outP_apply {x y : ℝ} (hx : rowLogits t w1 b1 w2 b2 a p = (x : EReal)) (hy : rowLogits t w1 b1 w2 b2 a q = (y : EReal)) (e : Fin 16) :
    outP (F := Ideal) t w1 b1 w2 b2 (ix2 e a) = ((spread x y p q e : ℝ) : EReal) := by
  have hd : (1 + Real.exp (y - x)) ≠ 0 := by positivity
  have hpq : q ≠ p := (Finset.mem_erase.mp hq.mem).1
  pointwise [outP, k0_pay2, k0_pay10, k0_pay11]
  rw [pay6_apply hp, pay9_apply hp hq hb, pay5_apply hp, pay8_apply hp hq hb, hx, hy, ← EReal.coe_sub, Ideal.exp_coe, ← EReal.coe_one,
    ← EReal.coe_add, Ideal.div_coe hd, Ideal.div_coe hd, ← EReal.coe_mul, ← EReal.coe_mul, select_position, select_position]
  unfold spread weight
  by_cases h : e = p
  · rw [if_pos h, if_pos h, if_neg (fun e' => hpq (e'.symm.trans h)), add_zero]
    simp
  · rw [if_neg h, if_neg h, zero_add]
    split
    · simp [div_eq_mul_inv]
    · simp

end Row

end Cert.KernelIdeal.Router

end
-- ==== Proof.Router.RefPicks.lean ====
module

public import proofs.«01_k».proof.Proof.Router.Logits
public import proofs.«01_k».proof.Proof.Router.Picks
public import Idealize.ShloMosaic.Lib.Routing.OpsSet

@[expose] public section

set_option maxRecDepth 16384

noncomputable section

namespace Cert.ReferenceIdeal.Router

open Cert.ReferenceIdeal Cert.ReferenceIdeal.Gen Cert.ReferenceIdeal.Value Cert.Consts
open Idealize.ShloMosaic Idealize.ShloMosaic.TcCoe Idealize.SL.Sem Idealize.ShloMosaic.StableHlo

open Cert.TopTwo

/-! The reference's top-two positions, its gathered logits, its softmax and its scattered weights, row by row. -/

/-- The first two positions that the stable sort of a row's entries leaves. -/
theorem topK_indices (x : FVec Ideal S32x16 .f32) (a : Fin 32) {p q : Fin 16}
    (hp : IsFirstMax (fun e => x (ix2 a e)) Finset.univ p) (hq : IsFirstMax (fun e => x (ix2 a e)) (Finset.univ.erase p) q) (i : Fin 2) :
    (Host.topK S32x2 1 (FloatOps.cmpfTotal .gt) x sliceFits_S32x16_S32x2).2 (ix2 a i) = BitVec.ofNat 32 ((![p, q] : Fin 2 → Fin 16) i).val := by
  unfold Host.topK
  pointwise
  have hlt : (1 : ℕ) < S32x16.rank := by decide
  have hal : ∀ k : Fin 16, Shape.Idx.along (s := S32x16) (ix2 a (i.castLE (by decide : 2 ≤ 16))) 1 k = ix2 a k := fun k => by
    funext b
    fin_cases b <;> rfl
  have e : (fun k k' : Fin 16 => FloatOps.cmpfTotal (F := Ideal) .gt (x (Shape.Idx.along (s := S32x16) (ix2 a (i.castLE (by decide : 2 ≤ 16))) 1 k))
      (x (Shape.Idx.along (s := S32x16) (ix2 a (i.castLE (by decide : 2 ≤ 16))) 1 k')) == 1#1)
      = fun k k' => decide (x (ix2 a k') < x (ix2 a k)) := by
    funext k k'
    rw [hal, hal]
    show (BitVec.ofBool (decide (x (ix2 a k') < x (ix2 a k))) == 1#1) = _
    cases decide (x (ix2 a k') < x (ix2 a k)) <;> rfl
  unfold Host.sort2
  rw [dif_pos hlt]
  have hv : ∀ (j : S32x16.Idx) (k : Fin 16), (j.along (⟨1, hlt⟩ : Fin S32x16.rank) k) 1 = k := fun j k => Function.update_self ..
  refine (congrArg (fun k : Fin 16 => BitVec.ofNat 32 k.val) (hv _ _)).trans ?_
  refine congrArg (fun k : Fin 16 => BitVec.ofNat 32 k.val) (Eq.trans ?_ (sortedFrom_eq (L := fun e => x (ix2 a e)) (by decide : 2 ≤ 16) hp hq i))
  exact congrArg (fun g : Fin 16 → Fin 16 → Bool => sortedFrom g (i.castLE (by decide : 2 ≤ 16))) e

/-- A take along each row, read at an entry whose index word is a position. -/
theorem take_apply (x : FVec Ideal S32x16 .f32) (idx : IVec S32x2x1 32) (a : Fin 32) (i : Fin 2) {e : Fin 16}
    (h : idx (ix3 a i (0 : Fin 1)) = BitVec.ofNat 32 e.val) :
    Host.gather gather_S32x16_S32x2x1_S32x2_n_1_0_0_1_2_11 x idx (ix2 a i) = x (ix2 a e) := by
  have hs : ∀ c, (gather_S32x16_S32x2x1_S32x2_n_1_0_0_1_2_11).siIdx (ix2 a i) c = ix3 a i (0 : Fin 1) := fun c => by
    obtain rfl : c = ⟨0, by decide⟩ := Subsingleton.elim (α := Fin 1) _ _
    funext b
    fin_cases b <;> rfl
  refine congrArg x (funext fun b => Fin.ext ?_)
  have ht : (idx (ix3 a i (0 : Fin 1))).toInt.toNat = e.val := by
    rw [h, toInt_ofNat (by omega)]
    rfl
  fin_cases b
  · show 0 + a.val + 0 = a.val
    omega
  · show min (idx ((gather_S32x16_S32x2x1_S32x2_n_1_0_0_1_2_11).siIdx (ix2 a i) _)).toInt.toNat (16 - 1) + 0 + 0 = e.val
    rw [hs, ht]
    omega

section
variable (V0 : Valuation τ sig (Elt Ideal)) (a : Fin 32) {p q : Fin 16}

/-- The chosen positions of a row, as the reference holds them. -/
theorem indices_apply (hp : IsFirstMax (fun e => res_main_v29 V0 (ix2 a e)) Finset.univ p)
    (hq : IsFirstMax (fun e => res_main_v29 V0 (ix2 a e)) (Finset.univ.erase p) q) (i : Fin 2) :
    res_main_indices V0 (ix2 a i) = BitVec.ofNat 32 ((![p, q] : Fin 2 → Fin 16) i).val :=
  topK_indices _ a hp hq i

/-- A position read as a word is never below zero. -/
theorem wrap_position (e : Fin 16) (z : BitVec 32) :
    Scalar.select (IntOp.cmpi .slt (BitVec.ofNat 32 e.val) 0#32) z (BitVec.ofNat 32 e.val) = BitVec.ofNat 32 e.val := by
  revert e
  have h : ∀ e : Fin 16, IntOp.cmpi .slt (BitVec.ofNat 32 e.val) 0#32 = 0#1 := by decide
  intro e
  rw [h]
  rfl

/-- A position read as a word lies between the bounds that the gather tests. -/
theorem in_range : ∀ e : Fin 16, IntOp.andi (IntOp.cmpi .sge (BitVec.ofNat 32 e.val) 0#32) (IntOp.cmpi .sle (BitVec.ofNat 32 e.val) 15#32) = 1#1 := by
  decide

/-- The positions that the gather reads at. -/
theorem call2_v5_apply (hp : IsFirstMax (fun e => res_main_v29 V0 (ix2 a e)) Finset.univ p)
    (hq : IsFirstMax (fun e => res_main_v29 V0 (ix2 a e)) (Finset.univ.erase p) q) (i : Fin 2) :
    res_main_call2_v5 V0 (ix3 a i (0 : Fin 1)) = BitVec.ofNat 32 ((![p, q] : Fin 2 → Fin 16) i).val := by
  have h := indices_apply V0 a hp hq i
  unfold res_main_call2_v5
  generalize res_main_indices V0 = idx at h ⊢
  pointwise
  rw [h, wrap_position]

/-- The reference's logits at the chosen positions. -/
theorem v30_apply (hp : IsFirstMax (fun e => res_main_v29 V0 (ix2 a e)) Finset.univ p)
    (hq : IsFirstMax (fun e => res_main_v29 V0 (ix2 a e)) (Finset.univ.erase p) q) (i : Fin 2) :
    res_main_v30 V0 (ix2 a i) = res_main_v29 V0 (ix2 a ((![p, q] : Fin 2 → Fin 16) i)) := by
  have h := call2_v5_apply V0 a hp hq i
  unfold res_main_v30
  rw [← take_apply (res_main_v29 V0) (res_main_call2_v5 V0) a i h]
  generalize res_main_call2_v5 V0 = idx at h ⊢
  generalize Host.gather _ _ _ = g
  pointwise
  have hset : ∀ y ∈ (Finset.univ.filter fun y : S32x2x1.Idx => reducesTo_S32x2x1_S32x2_d2.drop y = ix2 a i), idx y = BitVec.ofNat 32 ((![p, q] : Fin 2 → Fin 16) i).val := fun y hy => by
    have e := (Finset.mem_filter.1 hy).2
    have e0 : y 0 = a := congrFun e 0
    have e1 : y 1 = i := congrFun e 1
    have e2 : y 2 = (0 : Fin 1) := Subsingleton.elim (α := Fin 1) _ _
    rw [← h]
    refine congrArg idx (funext fun b => ?_)
    fin_cases b
    exacts [e0, e1, e2]
  rw [Finset.fold_congr (g := fun _ => 1#1) fun y hy => by rw [hset y hy, in_range], Finset.fold_const _ (by decide), show IntOp.andi 1#1 1#1 = 1#1 from rfl, ite_self]
  rfl

/-- The greater of a row's two entries, folded from the least value. -/
theorem row_max (v : S32x2.Idx → EReal) (a : Fin 32) {x y : ℝ} (hx : v (ix2 a (0 : Fin 2)) = (x : EReal)) (hy : v (ix2 a (1 : Fin 2)) = (y : EReal)) (hxy : y ≤ x) :
    Finset.fold max (⊥ : EReal) v (Finset.univ.filter fun j : S32x2.Idx => reducesTo_S32x2_S32_d1.drop j = ix1 a) = (x : EReal) := by
  refine le_antisymm ((Finset.fold_max_le _).2 ⟨bot_le, fun j hj => ?_⟩) ((Finset.le_fold_max _).2 (Or.inr ⟨ix2 a (0 : Fin 2), ?_, hx.ge⟩))
  · have e0 : j 0 = a := congrFun (Finset.mem_filter.1 hj).2 0
    have e : v (ix2 a (j 1)) ≤ (x : EReal) := by
      generalize (j 1 : Fin 2) = k
      fin_cases k
      · exact hx.le
      · exact hy.le.trans (EReal.coe_le_coe_iff.2 hxy)
    rw [← e0] at e
    exact (congrArg v (eq_ix2 j)).le.trans e
  · refine Finset.mem_filter.2 ⟨Finset.mem_univ _, ?_⟩
    funext b
    fin_cases b
    rfl

/-- An entry less its row's maximum, exponentiated. -/
theorem exp_row (v : S32x2.Idx → EReal) (a : Fin 32) (i : Fin 2) {x y : ℝ} (hx : v (ix2 a (0 : Fin 2)) = (x : EReal)) (hy : v (ix2 a (1 : Fin 2)) = (y : EReal)) (hxy : y ≤ x) :
    Ideal.exp (v (ix2 a i) - max ⊥ (Finset.fold max (⊥ : EReal) v (Finset.univ.filter fun j : S32x2.Idx => reducesTo_S32x2_S32_d1.drop j = ix1 a)))
      = ((Real.exp ((![x, y] : Fin 2 → ℝ) i - x) : ℝ) : EReal) := by
  have hv : v (ix2 a i) = (((![x, y] : Fin 2 → ℝ) i : ℝ) : EReal) := by
    fin_cases i
    exacts [hx, hy]
  rw [row_max v a hx hy hxy, max_eq_right bot_le, hv, ← EReal.coe_sub, Ideal.exp_coe]

/-- The exponentials of the chosen logits less the greatest of them. -/
theorem v37_apply (i : Fin 2) {x y : ℝ} (hx : res_main_v30 V0 (ix2 a (0 : Fin 2)) = (x : EReal)) (hy : res_main_v30 V0 (ix2 a (1 : Fin 2)) = (y : EReal)) (hxy : y ≤ x) :
    res_main_v37 V0 (ix2 a i) = ((Real.exp ((![x, y] : Fin 2 → ℝ) i - x) : ℝ) : EReal) := by
  unfold res_main_v37
  generalize res_main_v30 V0 = v at hx hy ⊢
  pointwise
  rw [ofBits_bot]
  exact exp_row v a i hx hy hxy

/-- The reference's two weights of a row. -/
def soft : FVec Ideal S32x2 .f32 :=
  Host.divf (res_main_v37 V0) (broadcastInDim S32x2 ![0, 1] bcast_S32x1_S32x2_0_1 (broadcastInDim S32x1 ![0] bcast_S32_S32x1_0
    (Host.reduceAdd (res_main_v37 V0) (constant S_ .f32 0x00000000#32) reducesTo_S32x2_S32_d1 h_S_)))

/-- They are the two weights of the chosen logits. -/
theorem soft_apply (i : Fin 2) {x y : ℝ} (hx : res_main_v30 V0 (ix2 a (0 : Fin 2)) = (x : EReal)) (hy : res_main_v30 V0 (ix2 a (1 : Fin 2)) = (y : EReal)) (hxy : y ≤ x) :
    soft V0 (ix2 a i) = ((Cert.KernelIdeal.Router.weight x y i : ℝ) : EReal) := by
  have h := fun i => v37_apply V0 a i hx hy hxy
  unfold soft
  generalize res_main_v37 V0 = v at h ⊢
  pointwise
  rw [Fin.sum_univ_two, h, h, h, ← EReal.coe_add, Ideal.div_coe (by positivity), ← EReal.coe_mul]
  congr 1
  unfold Cert.KernelIdeal.Router.weight
  fin_cases i <;> simp [div_eq_mul_inv]

/-- The places that the reference writes its weights to: row, then expert. -/
def places : IVec S32x2x2 32 :=
  concatenate S32x2x2 2 [⟨S32x2x1, broadcastInDim S32x2x1 ![0, 1] bcast_S32x2_S32x2x1_0_1 (broadcastInDim S32x2 ![0, 1] bcast_S32x1_S32x2_0_1
      (select (cmpi .slt (res_main_v44 V0) (broadcastInDim S32x1 ![] bcast_S_S32x1 (constantI S_ 32 0x00000000#32)))
        (addi (res_main_v44 V0) (broadcastInDim S32x1 ![] bcast_S_S32x1 (constantI S_ 32 0x00000020#32))) (res_main_v44 V0)))⟩,
    ⟨S32x2x1, broadcastInDim S32x2x1 ![0, 1] bcast_S32x2_S32x2x1_0_1
      (select (cmpi .slt (res_main_indices V0) (broadcastInDim S32x2 ![] bcast_S_S32x2 (constantI S_ 32 0x00000000#32)))
        (addi (res_main_indices V0) (broadcastInDim S32x2 ![] bcast_S_S32x2 (constantI S_ 32 0x00000010#32))) (res_main_indices V0))⟩]
    concatenates_S32x2x1_S32x2x1_S32x2x2_d2

/-- The row of a place. -/
theorem places_row (i : Fin 2) : places V0 (ix3 a i (0 : Fin 2)) = BitVec.ofNat 32 a.val := by
  unfold places
  generalize res_main_indices V0 = idx
  unfold res_main_v44
  pointwise
  rw [Routing.wrap_of_lt _ _ (by rw [BitVec.toNat_ofNat]; omega)]

/-- The expert of a place. -/
theorem places_expert (i : Fin 2) {e : Fin 16} (h : res_main_indices V0 (ix2 a i) = BitVec.ofNat 32 e.val) :
    places V0 (ix3 a i (1 : Fin 2)) = BitVec.ofNat 32 e.val := by
  unfold places
  generalize res_main_indices V0 = idx at h ⊢
  pointwise
  rw [h, wrap_position]

/-- Which updates land at an entry: those of its row whose position is its column. -/
theorem place (hp : IsFirstMax (fun e => res_main_v29 V0 (ix2 a e)) Finset.univ p) (hq : IsFirstMax (fun e => res_main_v29 V0 (ix2 a e)) (Finset.univ.erase p) q)
    (b : Fin 32) (i : Fin 2) (e : Fin 16) :
    scatter_S32x16_S32x2x2_S32x2_n_01_01_2.resultIdx? (ix2 b i) (places V0) = some (ix2 a e) ↔ b = a ∧ (![p, q] : Fin 2 → Fin 16) i = e := by
  refine (Routing.scatter_lands2 scatter_S32x16_S32x2x2_S32x2_n_01_01_2 rfl rfl rfl (places V0) b i a e).trans ?_
  have e0 : places V0 (ValueIdx.ix3 b i 0) = BitVec.ofNat 32 b.val := places_row V0 b i
  rw [e0, toInt_ofNat (by omega), Nat.cast_inj, ← Fin.ext_iff]
  refine and_congr_right fun hb => ?_
  subst hb
  have e1 : places V0 (ValueIdx.ix3 b i 1) = BitVec.ofNat 32 ((![p, q] : Fin 2 → Fin 16) i).val := places_expert V0 b i (indices_apply V0 b hp hq i)
  rw [e1, toInt_ofNat (by omega), Nat.cast_inj, ← Fin.ext_iff]

/-- The reference's weights over the experts. -/
def weights : FVec Ideal S32x16 .f32 :=
  Host.scatter scatter_S32x16_S32x2x2_S32x2_n_01_01_2 (fun _ b => b) (broadcastInDim S32x16 ![] bcast_S_S32x16 (constant S_ .f32 0x00000000#32)) (places V0) (soft V0)

/-- They are the weights of the two greatest logits at their experts, zero elsewhere. -/
theorem weights_apply {x y : ℝ} (hp : IsFirstMax (fun e => res_main_v29 V0 (ix2 a e)) Finset.univ p)
    (hq : IsFirstMax (fun e => res_main_v29 V0 (ix2 a e)) (Finset.univ.erase p) q)
    (hx : res_main_v29 V0 (ix2 a p) = (x : EReal)) (hy : res_main_v29 V0 (ix2 a q) = (y : EReal)) (e : Fin 16) :
    weights V0 (ix2 a e) = ((Cert.KernelIdeal.Router.spread x y p q e : ℝ) : EReal) := by
  have hxy : y ≤ x := EReal.coe_le_coe_iff.1 (hx ▸ hy ▸ hp.le q (Finset.mem_univ q))
  have hs := fun i => soft_apply V0 a i ((v30_apply V0 a hp hq 0).trans hx) ((v30_apply V0 a hp hq 1).trans hy) hxy
  have hqp : q ≠ p := Finset.ne_of_mem_erase hq.mem
  have land := fun b i => place V0 a hp hq b i e
  have hit : ∀ i : Fin 2, (∀ k : Fin 2, (![p, q] : Fin 2 → Fin 16) k = e → k = i) → (![p, q] : Fin 2 → Fin 16) i = e →
      weights V0 (ix2 a e) = ((Cert.KernelIdeal.Router.weight x y i : ℝ) : EReal) := fun i one he =>
    Routing.scatter_set_hit _ _ _ _ _ _ (fun k hk => by
      rw [eq_ix2 k] at hk ⊢
      obtain ⟨h0, h1⟩ := (land (k 0) (k 1)).1 hk
      rw [h0, one (k 1) h1, hs]) (ix2 a i) ((land a i).2 ⟨rfl, he⟩)
  unfold Cert.KernelIdeal.Router.spread
  split
  · next h =>
    refine hit 0 (fun k hk => ?_) h.symm
    fin_cases k
    · rfl
    · exact absurd (hk.trans h) hqp
  · next h =>
    split
    · next h' =>
      refine hit 1 (fun k hk => ?_) h'.symm
      fin_cases k
      · exact absurd hk.symm h
      · rfl
    · next h' =>
      refine (Routing.scatter_set_miss _ _ _ _ _ fun k hk => ?_).trans ?_
      · rw [eq_ix2 k] at hk
        have h1 := ((land (k 0) (k 1)).1 hk).2
        generalize (k 1 : Fin 2) = i at h1
        fin_cases i
        exacts [h h1.symm, h' h1.symm]
      · pointwise
        rfl
end

end Cert.ReferenceIdeal.Router

end
-- ==== Proof.Router.Equal.lean ====
module

public import proofs.«01_k».proof.Defs
public import proofs.«01_k».proof.Proof.Router.Finite
public import proofs.«01_k».proof.Proof.Router.Result
public import proofs.«01_k».proof.Proof.Router.RefPicks

@[expose] public section

set_option maxRecDepth 16384

noncomputable section

/-! # The kernel's two results are the reference's -/

namespace Cert.Proof

open Cert.Consts Cert.TopTwo
open Idealize.ShloMosaic Idealize.ShloMosaic.TcCoe Idealize.SL.Sem Idealize.ShloMosaic.StableHlo
open Cert.KernelIdeal.Router (rowLogits outI outP table bias2 statReal spread)
open Cert.ReferenceIdeal.Router (logit combined weights)
open Cert.ReferenceIdeal.Value (res_main_v29 res_main_indices)

/-- The core that runs the kernel on a device. -/
abbrev kernelCore (c : Dev Cert.KernelIdeal.nD) : Thread Cert.KernelIdeal.nD Cert.KernelIdeal.τ := c.tc

/-- The core that runs the reference on a device. -/
abbrev referenceCore (c : Dev Cert.ReferenceIdeal.nD) : Thread Cert.ReferenceIdeal.nD Cert.ReferenceIdeal.τ := c.tc

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference is launched on the kernel's arguments. -/
def SameArgs : Prop :=
  m' ((referenceCore c).loc Cert.ReferenceIdeal.main_arg0) = m ((kernelCore c).loc Cert.KernelIdeal.main_arg0)
  ∧ m' ((referenceCore c).loc Cert.ReferenceIdeal.main_arg1) = m ((kernelCore c).loc Cert.KernelIdeal.main_arg1)
  ∧ m' ((referenceCore c).loc Cert.ReferenceIdeal.main_arg2) = m ((kernelCore c).loc Cert.KernelIdeal.main_arg2)
  ∧ m' ((referenceCore c).loc Cert.ReferenceIdeal.main_arg3) = m ((kernelCore c).loc Cert.KernelIdeal.main_arg3)
  ∧ m' ((referenceCore c).loc Cert.ReferenceIdeal.main_arg4) = m ((kernelCore c).loc Cert.KernelIdeal.main_arg4)

/-- A row's logits in the kernel. -/
abbrev kernelLogits (a : Fin 32) : Fin 16 → EReal :=
  rowLogits (table m c) (m ((kernelCore c).loc Cert.KernelIdeal.main_arg1)) (m ((kernelCore c).loc Cert.KernelIdeal.main_arg2))
    (m ((kernelCore c).loc Cert.KernelIdeal.main_arg3)) (bias2 m c) a

/-- A row's logits in the reference. -/
abbrev referenceLogits (a : Fin 32) (e : Fin 16) : EReal := res_main_v29 (launchContents m' c) (ix2 a e)

variable (h : SameArgs m m' c) (hpre : Cert.Pre_KernelIdeal_finite m)
include h hpre

/-- The two tables of statistics hold the same reals, so the logits are the same reals. -/
theorem logits (a : Fin 32) : referenceLogits m' c a = kernelLogits m c a ∧ ∀ e, IsReal (kernelLogits m c a e) := by
  obtain ⟨e0, e1, e2, e3, e4⟩ := h
  obtain ⟨r0, r1, r2, r3, r4⟩ := Cert.Pre_finite.Router.reals _ _ _ _ _ (hpre c)
  choose X hX using r0
  have hK : (fun (a : Fin 32) (b : Fin 768) => table m c (ix2 a b)) = fun a b => ((statReal (fun k i w => X (ix4 a k i w)) b : ℝ) : EReal) := by
    funext a b
    refine Cert.KernelIdeal.Router.statAt_apply (fun k i w => ?_) b
    exact (Cert.KernelIdeal.Router.rowsOf_apply m c a i w k).trans (hX _)
  have hR : (fun (a : Fin 32) (b : Fin 768) => combined (m' ((referenceCore c).loc Cert.ReferenceIdeal.main_arg0)) (ix2 a b))
      = fun a b => ((statReal (fun k i w => X (ix4 a k i w)) b : ℝ) : EReal) := by
    funext a b
    refine Cert.ReferenceIdeal.Router.combined_apply (X := fun a k i w => X (ix4 a k i w)) (fun a k i w => ?_) a b
    rw [e0]
    exact hX _
  have hk : ∀ e, kernelLogits m c a e = logit (fun a b => table m c (ix2 a b)) (m ((kernelCore c).loc Cert.KernelIdeal.main_arg1))
      (m ((kernelCore c).loc Cert.KernelIdeal.main_arg2)) (m ((kernelCore c).loc Cert.KernelIdeal.main_arg3))
      (m ((kernelCore c).loc Cert.KernelIdeal.main_arg4)) a e := fun e => Cert.ReferenceIdeal.Router.pay4_apply _ _ _ _ _ a e
  have hr : ∀ e, referenceLogits m' c a e = logit (fun a b => combined (m' ((referenceCore c).loc Cert.ReferenceIdeal.main_arg0)) (ix2 a b))
      (m' ((referenceCore c).loc Cert.ReferenceIdeal.main_arg1)) (m' ((referenceCore c).loc Cert.ReferenceIdeal.main_arg2))
      (m' ((referenceCore c).loc Cert.ReferenceIdeal.main_arg3)) (m' ((referenceCore c).loc Cert.ReferenceIdeal.main_arg4)) a e :=
    fun e => Cert.ReferenceIdeal.Router.v29_apply _ a e
  refine ⟨funext fun e => ?_, fun e => ?_⟩
  · rw [hr, hk, hR, hK, e1, e2, e3, e4]
  · rw [hk, hK]
    exact Cert.ReferenceIdeal.Router.logit_real (fun a b => .coe _) r1 r2 r3 r4 a e

/-- A row's chosen experts and their weights are the same. -/
theorem row (a : Fin 32) :
    (∀ e : Fin 16, weights (launchContents m' c) (ix2 a e) = outP (F := Ideal) (table m c) (m ((kernelCore c).loc Cert.KernelIdeal.main_arg1))
      (m ((kernelCore c).loc Cert.KernelIdeal.main_arg2)) (m ((kernelCore c).loc Cert.KernelIdeal.main_arg3)) (bias2 m c) (ix2 e a))
    ∧ ∀ i : Fin 2, res_main_indices (launchContents m' c) (ix2 a i) = outI (F := Ideal) (table m c) (m ((kernelCore c).loc Cert.KernelIdeal.main_arg1))
      (m ((kernelCore c).loc Cert.KernelIdeal.main_arg2)) (m ((kernelCore c).loc Cert.KernelIdeal.main_arg3)) (bias2 m c) (ix2 i a) := by
  obtain ⟨hl, hr⟩ := logits m m' c h hpre a
  obtain ⟨p, hp⟩ := exists_firstMax (kernelLogits m c a) (s := Finset.univ) ⟨0, Finset.mem_univ _⟩
  obtain ⟨q, hq⟩ := exists_firstMax (kernelLogits m c a) (s := Finset.univ.erase p)
    ((Finset.erase_nonempty (Finset.mem_univ p)).2 (Finset.univ_nontrivial))
  obtain ⟨x, hx⟩ := hr p
  obtain ⟨y, hy⟩ := hr q
  have hb : kernelLogits m c a q ≠ ⊥ := by rw [hy]; exact EReal.coe_ne_bot y
  have hp' : IsFirstMax (referenceLogits m' c a) Finset.univ p := hl ▸ hp
  have hq' : IsFirstMax (referenceLogits m' c a) (Finset.univ.erase p) q := hl ▸ hq
  refine ⟨fun e => ?_, fun i => ?_⟩
  · rw [Cert.KernelIdeal.Router.outP_apply hp hq hb hx hy]
    exact Cert.ReferenceIdeal.Router.weights_apply _ a hp' hq' ((congrFun hl p).trans hx) ((congrFun hl q).trans hy) e
  · rw [Cert.KernelIdeal.Router.outI_apply hp hq hb]
    exact Cert.ReferenceIdeal.Router.indices_apply _ a hp' hq' i

end

/-- The kernel writes its weights expert by expert; the host turns them. -/
theorem swap_weights (v : FVec Ideal Cert.KernelIdeal.S16x32 .f32) (a : Fin 32) (e : Fin 16) :
    transpose Cert.KernelIdeal.S32x16 [1, 0] v Cert.KernelIdeal.Facts₀.transposes_S16x32_S32x16_1_0 (ix2 a e) = v (ix2 e a) := by
  pointwise

/-- The kernel writes its positions slot by slot; the host turns them. -/
theorem swap_experts (v : IVec Cert.KernelIdeal.S2x32 32) (a : Fin 32) (i : Fin 2) :
    transpose Cert.KernelIdeal.S32x2 [1, 0] v Cert.KernelIdeal.Facts₀.transposes_S2x32_S32x2_1_0 (ix2 a i) = v (ix2 i a) := by
  pointwise

/-- From equal arguments that the precondition admits, the kernel and the reference run to equal results. -/
theorem algebraic : Cert.algebraic_KernelIdeal_ReferenceIdeal_pre_finite := fun m g m' g' hpre h => by
  refine ⟨_, _, Cert.KernelIdeal.Router.run m g, (θ_run Cert.ReferenceIdeal.defs _ _).mono (fun r hr c => ?_) (Cert.ReferenceIdeal.Value.run (F := Ideal) m' g')⟩
  obtain ⟨r0, r1, ra⟩ := hr c
  refine ⟨r0.trans ?_, r1.trans ?_, ra⟩
  · refine congrArg (fun v => shapeCast Cert.ReferenceIdeal.S32x16x1x1 v Cert.ReferenceIdeal.Facts₀.shapeCasts_S32x16_S32x16x1x1) (?_ : weights (launchContents m' c) = _)
    funext j
    rw [eq_ix2 j, (row m m' c (h c) hpre (j 0)).1 (j 1)]
    exact (swap_weights _ (j 0) (j 1)).symm
  · refine congrArg (fun v => shapeCast Cert.ReferenceIdeal.S32x2x1x1 v Cert.ReferenceIdeal.Facts₀.shapeCasts_S32x2_S32x2x1x1) (?_ : res_main_indices (launchContents m' c) = _)
    funext j
    rw [eq_ix2 j, (row m m' c (h c) hpre (j 0)).2 (j 1)]
    exact (swap_experts _ (j 0) (j 1)).symm

end Cert.Proof

end
-- ==== Proof.lean ====
/- The certificate's claim, assembled: three frames, the named constants, and the equality of the kernel's results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init
public import proofs.«01_k».proof.Proof.Router.Frames
public import proofs.«01_k».proof.Proof.Router.Equal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  frame_p, frame_pi, fun m ρ _ => frame_pi m ρ trivial, frame_ri, fun m ρ _ => frame_ri m ρ trivial, preserves, algebraic⟩

end Cert.Proof

end
